-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v374) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S4x16x128x32x32 : Shape := ⟨5, ![4, 16, 128, 32, 32]⟩
abbrev S1 : Shape := ⟨1, ![1]⟩
abbrev S16x16 : Shape := ⟨2, ![16, 16]⟩
abbrev S1x2x3x3 : Shape := ⟨4, ![1, 2, 3, 3]⟩
abbrev S_ : Shape := ⟨0, ![]⟩

class Facts : Prop where
  bcast_S_S4x16x128x32x32 : S_.BroadcastsInDim S4x16x128x32x32 (![] : Fin 0 → Fin S4x16x128x32x32.rank)

variable [Facts]

def fn {F : FTy → Type} [FloatOps F] (main_arg0 : FVec F S4x16x128x32x32 .f32) (main_arg1 : FVec F S1 .f32) (main_arg2 : FVec F S1 .f32) (main_arg3 : FVec F S16x16 .f32) (main_arg4 : FVec F S1x2x3x3 .f32) (main_arg5 : FVec F S1x2x3x3 .f32) : IVec S4x16x128x32x32 1 :=
  let main_cst : FVec F S_ .f32 := constant S_ .f32 0xFF800000#32
  let main_v0 : FVec F S4x16x128x32x32 .f32 := broadcastInDim S4x16x128x32x32 ![] bcast_S_S4x16x128x32x32 main_cst
  let main_v1 : IVec S4x16x128x32x32 1 := cmpf .ogt main_arg0 main_v0
  let main_cst_0 : FVec F S_ .f32 := constant S_ .f32 0x7F800000#32
  let main_v2 : FVec F S4x16x128x32x32 .f32 := broadcastInDim S4x16x128x32x32 ![] bcast_S_S4x16x128x32x32 main_cst_0
  let main_v3 : IVec S4x16x128x32x32 1 := cmpf .olt main_arg0 main_v2
  let main_v4 : IVec S4x16x128x32x32 1 := andi main_v1 main_v3
  main_v4
-- ==== Kernel.lean ====
abbrev S4x16x128x32x32 : Shape := ⟨5, ![4, 16, 128, 32, 32]⟩
abbrev S1 : Shape := ⟨1, ![1]⟩
abbrev S16x16 : Shape := ⟨2, ![16, 16]⟩
abbrev S1x2x3x3 : Shape := ⟨4, ![1, 2, 3, 3]⟩
abbrev S4x16x32x32x128 : Shape := ⟨5, ![4, 16, 32, 32, 128]⟩
abbrev S4x16x1024x128 : Shape := ⟨4, ![4, 16, 1024, 128]⟩
abbrev S2 : Shape := ⟨1, ![2]⟩
abbrev S1x2 : Shape := ⟨2, ![1, 2]⟩
abbrev S4x16x128 : Shape := ⟨3, ![4, 16, 128]⟩
abbrev S1x16x1024x128 : Shape := ⟨4, ![1, 16, 1024, 128]⟩
abbrev S1x16x128 : Shape := ⟨3, ![1, 16, 128]⟩
abbrev S1x1 : Shape := ⟨2, ![1, 1]⟩
abbrev S1x1x1024x128 : Shape := ⟨4, ![1, 1, 1024, 128]⟩
abbrev S1024x128 : Shape := ⟨2, ![1024, 128]⟩
abbrev S128 : Shape := ⟨1, ![128]⟩
abbrev S1x128 : Shape := ⟨2, ![1, 128]⟩
abbrev S16x128 : Shape := ⟨2, ![16, 128]⟩
abbrev S128x128 : Shape := ⟨2, ![128, 128]⟩
abbrev S128x16 : Shape := ⟨2, ![128, 16]⟩
abbrev S16x128x1 : Shape := ⟨3, ![16, 128, 1]⟩
abbrev S16x1x128 : Shape := ⟨3, ![16, 1, 128]⟩
abbrev S16x128x128 : Shape := ⟨3, ![16, 128, 128]⟩
abbrev S1x128x128 : Shape := ⟨3, ![1, 128, 128]⟩
abbrev S128x16x1 : Shape := ⟨3, ![128, 16, 1]⟩
abbrev S128x1x16 : Shape := ⟨3, ![128, 1, 16]⟩
abbrev S128x16x16 : Shape := ⟨3, ![128, 16, 16]⟩
abbrev S1x16x16 : Shape := ⟨3, ![1, 16, 16]⟩
abbrev S1024 : Shape := ⟨1, ![1024]⟩
abbrev S1024x1 : Shape := ⟨2, ![1024, 1]⟩
abbrev S1x1x1x1 : Shape := ⟨4, ![1, 1, 1, 1]⟩
abbrev S33x1 : Shape := ⟨2, ![33, 1]⟩
abbrev S991x1 : Shape := ⟨2, ![991, 1]⟩
abbrev S32x1 : Shape := ⟨2, ![32, 1]⟩
abbrev S992x1 : Shape := ⟨2, ![992, 1]⟩
abbrev S31x1 : Shape := ⟨2, ![31, 1]⟩
abbrev S993x1 : Shape := ⟨2, ![993, 1]⟩
abbrev S1023x1 : Shape := ⟨2, ![1023, 1]⟩

abbrev nBuf : Space → Nat
  | .hbm => 15
  | .vmem => 15
  | .smem => 0
  | _ => 0

abbrev bufTy : (tb : Table) → Fin (tcTables nBuf tb) → BufTy
  | .hbm, ⟨0, _⟩ => ⟨S4x16x128x32x32, .f32⟩
  | .hbm, ⟨1, _⟩ => ⟨S1, .f32⟩
  | .hbm, ⟨2, _⟩ => ⟨S1, .f32⟩
  | .hbm, ⟨3, _⟩ => ⟨S16x16, .f32⟩
  | .hbm, ⟨4, _⟩ => ⟨S1x2x3x3, .f32⟩
  | .hbm, ⟨5, _⟩ => ⟨S1x2x3x3, .f32⟩
  | .hbm, ⟨6, _⟩ => ⟨S4x16x32x32x128, .f32⟩
  | .hbm, ⟨7, _⟩ => ⟨S4x16x1024x128, .f32⟩
  | .hbm, ⟨8, _⟩ => ⟨S2, .f32⟩
  | .hbm, ⟨9, _⟩ => ⟨S1x2, .f32⟩
  | .hbm, ⟨10, _⟩ => ⟨S4x16x128, .f32⟩
  | .hbm, ⟨11, _⟩ => ⟨S16x128, .f32⟩
  | .hbm, ⟨12, _⟩ => ⟨S4x16x1024x128, .f32⟩
  | .hbm, ⟨13, _⟩ => ⟨S4x16x32x32x128, .f32⟩
  | .hbm, ⟨14, _⟩ => ⟨S4x16x128x32x32, .f32⟩
  | .local _ .vmem, ⟨0, _⟩ => ⟨S1x16x1024x128, .f32⟩
  | .local _ .vmem, ⟨1, _⟩ => ⟨S1x16x1024x128, .f32⟩
  | .local _ .vmem, ⟨2, _⟩ => ⟨S1x2, .f32⟩
  | .local _ .vmem, ⟨3, _⟩ => ⟨S1x16x128, .f32⟩
  | .local _ .vmem, ⟨4, _⟩ => ⟨S1x16x128, .f32⟩
  | .local _ .vmem, ⟨5, _⟩ => ⟨S4x16x128, .f32⟩
  | .local _ .vmem, ⟨6, _⟩ => ⟨S16x16, .f32⟩
  | .local _ .vmem, ⟨7, _⟩ => ⟨S16x128, .f32⟩
  | .local _ .vmem, ⟨8, _⟩ => ⟨S1x16x1024x128, .f32⟩
  | .local _ .vmem, ⟨9, _⟩ => ⟨S1x16x1024x128, .f32⟩
  | .local _ .vmem, ⟨10, _⟩ => ⟨S16x128, .f32⟩
  | .local _ .vmem, ⟨11, _⟩ => ⟨S1x2x3x3, .f32⟩
  | .local _ .vmem, ⟨12, _⟩ => ⟨S1x2x3x3, .f32⟩
  | .local _ .vmem, ⟨13, _⟩ => ⟨S1x16x1024x128, .f32⟩
  | .local _ .vmem, ⟨14, _⟩ => ⟨S1x16x1024x128, .f32⟩
  | _, _ => ⟨S4x16x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem4_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S4x16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![4], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x16x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2x3x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2x3x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x16x1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S4x16x128x32x32 : Shape := ⟨5, ![4, 16, 128, 32, 32]⟩
abbrev S1 : Shape := ⟨1, ![1]⟩
abbrev S16x16 : Shape := ⟨2, ![16, 16]⟩
abbrev S1x2x3x3 : Shape := ⟨4, ![1, 2, 3, 3]⟩
abbrev S_ : Shape := ⟨0, ![]⟩
abbrev S4x16x128 : Shape := ⟨3, ![4, 16, 128]⟩
abbrev S4x16x128x1x1 : Shape := ⟨5, ![4, 16, 128, 1, 1]⟩
abbrev S1x1x1x1x1 : Shape := ⟨5, ![1, 1, 1, 1, 1]⟩
abbrev S4x128x16 : Shape := ⟨3, ![4, 128, 16]⟩
abbrev S4x16x64 : Shape := ⟨3, ![4, 16, 64]⟩
abbrev S16 : Shape := ⟨1, ![16]⟩
abbrev S1x16x1 : Shape := ⟨3, ![1, 16, 1]⟩
abbrev S16x128 : Shape := ⟨2, ![16, 128]⟩
abbrev S4x16x64x1 : Shape := ⟨4, ![4, 16, 64, 1]⟩
abbrev S4x16x64x2 : Shape := ⟨4, ![4, 16, 64, 2]⟩
abbrev S1x16x128x1x1 : Shape := ⟨5, ![1, 16, 128, 1, 1]⟩
abbrev S4x128x8 : Shape := ⟨3, ![4, 128, 8]⟩
abbrev S128 : Shape := ⟨1, ![128]⟩
abbrev S1x128x1 : Shape := ⟨3, ![1, 128, 1]⟩
abbrev S128x16 : Shape := ⟨2, ![128, 16]⟩
abbrev S4x128x8x1 : Shape := ⟨4, ![4, 128, 8, 1]⟩
abbrev S4x128x8x2 : Shape := ⟨4, ![4, 128, 8, 2]⟩
abbrev S4x2048x32x32 : Shape := ⟨4, ![4, 2048, 32, 32]⟩
abbrev S4x32x32 : Shape := ⟨3, ![4, 32, 32]⟩
abbrev S4x1x32x32 : Shape := ⟨4, ![4, 1, 32, 32]⟩
abbrev S4x2x32x32 : Shape := ⟨4, ![4, 2, 32, 32]⟩
abbrev S4x2x34x34 : Shape := ⟨4, ![4, 2, 34, 34]⟩
abbrev S1x1x1x1 : Shape := ⟨4, ![1, 1, 1, 1]⟩

abbrev nBuf : Space → Nat
  | .hbm => 426
  | .vmem => 0
  | .smem => 0
  | _ => 0

abbrev hbmTy0_0 (i : Nat) : BufTy := match i % 128 with
  | 0 => ⟨S4x16x128x32x32, .f32⟩
  | 1 => ⟨S1, .f32⟩
  | 2 => ⟨S1, .f32⟩
  | 3 => ⟨S16x16, .f32⟩
  | 4 => ⟨S1x2x3x3, .f32⟩
  | 5 => ⟨S1x2x3x3, .f32⟩
  | 6 => ⟨S_, .f32⟩
  | 7 => ⟨S4x16x128, .f32⟩
  | 8 => ⟨S4x16x128x1x1, .f32⟩
  | 9 => ⟨S_, .f32⟩
  | 10 => ⟨S4x16x128x1x1, .f32⟩
  | 11 => ⟨S4x16x128x1x1, .f32⟩
  | 12 => ⟨S_, .f32⟩
  | 13 => ⟨S4x16x128, .f32⟩
  | 14 => ⟨S4x16x128x1x1, .f32⟩
  | 15 => ⟨S4x16x128x1x1, .f32⟩
  | 16 => ⟨S_, .f32⟩
  | 17 => ⟨S4x16x128x1x1, .f32⟩
  | 18 => ⟨S4x16x128x1x1, .f32⟩
  | 19 => ⟨S1x1x1x1x1, .f32⟩
  | 20 => ⟨S4x16x128x1x1, .f32⟩
  | 21 => ⟨S4x16x128x1x1, .f32⟩
  | 22 => ⟨S4x16x128x1x1, .f32⟩
  | 23 => ⟨S1x1x1x1x1, .f32⟩
  | 24 => ⟨S4x16x128x1x1, .f32⟩
  | 25 => ⟨S4x16x128x1x1, .f32⟩
  | 26 => ⟨S4x16x128x1x1, .f32⟩
  | 27 => ⟨S4x16x128, .f32⟩
  | 28 => ⟨S4x128x16, .f32⟩
  | 29 => ⟨S4x128x16, .f32⟩
  | 30 => ⟨S4x16x128, .f32⟩
  | 31 => ⟨S4x16x64, .f32⟩
  | 32 => ⟨S4x16x64, .i32⟩
  | 33 => ⟨S16, .i32⟩
  | 34 => ⟨S1x16x1, .i32⟩
  | 35 => ⟨S4x16x64, .i32⟩
  | 36 => ⟨S_, .f32⟩
  | 37 => ⟨S16x128, .f32⟩
  | 38 => ⟨S_, .i32⟩
  | 39 => ⟨S4x16x64, .i32⟩
  | 40 => ⟨S4x16x64, .i1⟩
  | 41 => ⟨S_, .i32⟩
  | 42 => ⟨S4x16x64, .i32⟩
  | 43 => ⟨S4x16x64, .i32⟩
  | 44 => ⟨S4x16x64, .i32⟩
  | 45 => ⟨S_, .i32⟩
  | 46 => ⟨S4x16x64, .i32⟩
  | 47 => ⟨S4x16x64, .i1⟩
  | 48 => ⟨S_, .i32⟩
  | 49 => ⟨S4x16x64, .i32⟩
  | 50 => ⟨S4x16x64, .i32⟩
  | 51 => ⟨S4x16x64, .i32⟩
  | 52 => ⟨S4x16x64x1, .i32⟩
  | 53 => ⟨S4x16x64x1, .i32⟩
  | 54 => ⟨S4x16x64x2, .i32⟩
  | 55 => ⟨S_, .f32⟩
  | 56 => ⟨S4x16x64, .f32⟩
  | 57 => ⟨S16x128, .f32⟩
  | 58 => ⟨S1x16x128x1x1, .f32⟩
  | 59 => ⟨S4x16x128x1x1, .f32⟩
  | 60 => ⟨S4x128x16, .f32⟩
  | 61 => ⟨S4x128x8, .f32⟩
  | 62 => ⟨S4x128x8, .i32⟩
  | 63 => ⟨S128, .i32⟩
  | 64 => ⟨S1x128x1, .i32⟩
  | 65 => ⟨S4x128x8, .i32⟩
  | 66 => ⟨S_, .f32⟩
  | 67 => ⟨S128x16, .f32⟩
  | 68 => ⟨S_, .i32⟩
  | 69 => ⟨S4x128x8, .i32⟩
  | 70 => ⟨S4x128x8, .i1⟩
  | 71 => ⟨S_, .i32⟩
  | 72 => ⟨S4x128x8, .i32⟩
  | 73 => ⟨S4x128x8, .i32⟩
  | 74 => ⟨S4x128x8, .i32⟩
  | 75 => ⟨S_, .i32⟩
  | 76 => ⟨S4x128x8, .i32⟩
  | 77 => ⟨S4x128x8, .i1⟩
  | 78 => ⟨S_, .i32⟩
  | 79 => ⟨S4x128x8, .i32⟩
  | 80 => ⟨S4x128x8, .i32⟩
  | 81 => ⟨S4x128x8, .i32⟩
  | 82 => ⟨S4x128x8x1, .i32⟩
  | 83 => ⟨S4x128x8x1, .i32⟩
  | 84 => ⟨S4x128x8x2, .i32⟩
  | 85 => ⟨S_, .f32⟩
  | 86 => ⟨S4x128x8, .f32⟩
  | 87 => ⟨S128x16, .f32⟩
  | 88 => ⟨S16x128, .f32⟩
  | 89 => ⟨S1x16x128x1x1, .f32⟩
  | 90 => ⟨S4x16x128x1x1, .f32⟩
  | 91 => ⟨S4x16x128x1x1, .f32⟩
  | 92 => ⟨S_, .f32⟩
  | 93 => ⟨S4x16x128x1x1, .f32⟩
  | 94 => ⟨S4x16x128x1x1, .f32⟩
  | 95 => ⟨S_, .f32⟩
  | 96 => ⟨S4x16x128x1x1, .f32⟩
  | 97 => ⟨S4x16x128x1x1, .i1⟩
  | 98 => ⟨S_, .f32⟩
  | 99 => ⟨S_, .f32⟩
  | 100 => ⟨S4x16x128x1x1, .f32⟩
  | 101 => ⟨S4x16x128x1x1, .f32⟩
  | 102 => ⟨S4x16x128x1x1, .f32⟩
  | 103 => ⟨S_, .f32⟩
  | 104 => ⟨S4x16x128x1x1, .f32⟩
  | 105 => ⟨S4x16x128x1x1, .f32⟩
  | 106 => ⟨S4x16x128x1x1, .f32⟩
  | 107 => ⟨S4x16x128x32x32, .f32⟩
  | 108 => ⟨S4x16x128x32x32, .f32⟩
  | 109 => ⟨S4x2048x32x32, .f32⟩
  | 110 => ⟨S4x16x128x1x1, .f32⟩
  | 111 => ⟨S4x16x128x32x32, .f32⟩
  | 112 => ⟨S4x16x128x32x32, .f32⟩
  | 113 => ⟨S4x2048x32x32, .f32⟩
  | 114 => ⟨S_, .f32⟩
  | 115 => ⟨S4x32x32, .f32⟩
  | 116 => ⟨S4x1x32x32, .f32⟩
  | 117 => ⟨S_, .f32⟩
  | 118 => ⟨S4x1x32x32, .f32⟩
  | 119 => ⟨S4x1x32x32, .f32⟩
  | 120 => ⟨S_, .f32⟩
  | 121 => ⟨S4x1x32x32, .f32⟩
  | 122 => ⟨S4x1x32x32, .f32⟩
  | 123 => ⟨S_, .f32⟩
  | 124 => ⟨S4x32x32, .f32⟩
  | 125 => ⟨S4x1x32x32, .f32⟩
  | 126 => ⟨S_, .f32⟩
  | 127 => ⟨S4x32x32, .f32⟩
  | _ => ⟨S4x16x128x32x32, .f32⟩

abbrev hbmTy0_1 (i : Nat) : BufTy := match i % 128 with
  | 0 => ⟨S4x1x32x32, .f32⟩
  | 1 => ⟨S_, .f32⟩
  | 2 => ⟨S4x1x32x32, .f32⟩
  | 3 => ⟨S4x1x32x32, .f32⟩
  | 4 => ⟨S_, .f32⟩
  | 5 => ⟨S4x1x32x32, .f32⟩
  | 6 => ⟨S4x1x32x32, .f32⟩
  | 7 => ⟨S_, .f32⟩
  | 8 => ⟨S4x32x32, .f32⟩
  | 9 => ⟨S4x1x32x32, .f32⟩
  | 10 => ⟨S4x2x32x32, .f32⟩
  | 11 => ⟨S4x2x32x32, .f32⟩
  | 12 => ⟨S_, .i32⟩
  | 13 => ⟨S_, .f32⟩
  | 14 => ⟨S4x2x34x34, .f32⟩
  | 15 => ⟨S1x1x1x1, .f32⟩
  | 16 => ⟨S_, .f32⟩
  | 17 => ⟨S4x1x32x32, .f32⟩
  | 18 => ⟨S4x32x32, .f32⟩
  | 19 => ⟨S4x32x32, .f32⟩
  | 20 => ⟨S4x32x32, .f32⟩
  | 21 => ⟨S_, .f32⟩
  | 22 => ⟨S4x32x32, .f32⟩
  | 23 => ⟨S4x32x32, .f32⟩
  | 24 => ⟨S1x1x1x1, .f32⟩
  | 25 => ⟨S_, .f32⟩
  | 26 => ⟨S4x1x32x32, .f32⟩
  | 27 => ⟨S4x32x32, .f32⟩
  | 28 => ⟨S4x32x32, .f32⟩
  | 29 => ⟨S4x32x32, .f32⟩
  | 30 => ⟨S4x32x32, .f32⟩
  | 31 => ⟨S1x1x1x1, .f32⟩
  | 32 => ⟨S_, .f32⟩
  | 33 => ⟨S4x1x32x32, .f32⟩
  | 34 => ⟨S4x32x32, .f32⟩
  | 35 => ⟨S4x32x32, .f32⟩
  | 36 => ⟨S4x32x32, .f32⟩
  | 37 => ⟨S4x32x32, .f32⟩
  | 38 => ⟨S1x1x1x1, .f32⟩
  | 39 => ⟨S_, .f32⟩
  | 40 => ⟨S4x1x32x32, .f32⟩
  | 41 => ⟨S4x32x32, .f32⟩
  | 42 => ⟨S4x32x32, .f32⟩
  | 43 => ⟨S4x32x32, .f32⟩
  | 44 => ⟨S4x32x32, .f32⟩
  | 45 => ⟨S1x1x1x1, .f32⟩
  | 46 => ⟨S_, .f32⟩
  | 47 => ⟨S4x1x32x32, .f32⟩
  | 48 => ⟨S4x32x32, .f32⟩
  | 49 => ⟨S4x32x32, .f32⟩
  | 50 => ⟨S4x32x32, .f32⟩
  | 51 => ⟨S4x32x32, .f32⟩
  | 52 => ⟨S1x1x1x1, .f32⟩
  | 53 => ⟨S_, .f32⟩
  | 54 => ⟨S4x1x32x32, .f32⟩
  | 55 => ⟨S4x32x32, .f32⟩
  | 56 => ⟨S4x32x32, .f32⟩
  | 57 => ⟨S4x32x32, .f32⟩
  | 58 => ⟨S4x32x32, .f32⟩
  | 59 => ⟨S1x1x1x1, .f32⟩
  | 60 => ⟨S_, .f32⟩
  | 61 => ⟨S4x1x32x32, .f32⟩
  | 62 => ⟨S4x32x32, .f32⟩
  | 63 => ⟨S4x32x32, .f32⟩
  | 64 => ⟨S4x32x32, .f32⟩
  | 65 => ⟨S4x32x32, .f32⟩
  | 66 => ⟨S1x1x1x1, .f32⟩
  | 67 => ⟨S_, .f32⟩
  | 68 => ⟨S4x1x32x32, .f32⟩
  | 69 => ⟨S4x32x32, .f32⟩
  | 70 => ⟨S4x32x32, .f32⟩
  | 71 => ⟨S4x32x32, .f32⟩
  | 72 => ⟨S4x32x32, .f32⟩
  | 73 => ⟨S1x1x1x1, .f32⟩
  | 74 => ⟨S_, .f32⟩
  | 75 => ⟨S4x1x32x32, .f32⟩
  | 76 => ⟨S4x32x32, .f32⟩
  | 77 => ⟨S4x32x32, .f32⟩
  | 78 => ⟨S4x32x32, .f32⟩
  | 79 => ⟨S4x32x32, .f32⟩
  | 80 => ⟨S1x1x1x1, .f32⟩
  | 81 => ⟨S_, .f32⟩
  | 82 => ⟨S4x1x32x32, .f32⟩
  | 83 => ⟨S4x32x32, .f32⟩
  | 84 => ⟨S4x32x32, .f32⟩
  | 85 => ⟨S4x32x32, .f32⟩
  | 86 => ⟨S4x32x32, .f32⟩
  | 87 => ⟨S1x1x1x1, .f32⟩
  | 88 => ⟨S_, .f32⟩
  | 89 => ⟨S4x1x32x32, .f32⟩
  | 90 => ⟨S4x32x32, .f32⟩
  | 91 => ⟨S4x32x32, .f32⟩
  | 92 => ⟨S4x32x32, .f32⟩
  | 93 => ⟨S4x32x32, .f32⟩
  | 94 => ⟨S1x1x1x1, .f32⟩
  | 95 => ⟨S_, .f32⟩
  | 96 => ⟨S4x1x32x32, .f32⟩
  | 97 => ⟨S4x32x32, .f32⟩
  | 98 => ⟨S4x32x32, .f32⟩
  | 99 => ⟨S4x32x32, .f32⟩
  | 100 => ⟨S4x32x32, .f32⟩
  | 101 => ⟨S1x1x1x1, .f32⟩
  | 102 => ⟨S_, .f32⟩
  | 103 => ⟨S4x1x32x32, .f32⟩
  | 104 => ⟨S4x32x32, .f32⟩
  | 105 => ⟨S4x32x32, .f32⟩
  | 106 => ⟨S4x32x32, .f32⟩
  | 107 => ⟨S4x32x32, .f32⟩
  | 108 => ⟨S1x1x1x1, .f32⟩
  | 109 => ⟨S_, .f32⟩
  | 110 => ⟨S4x1x32x32, .f32⟩
  | 111 => ⟨S4x32x32, .f32⟩
  | 112 => ⟨S4x32x32, .f32⟩
  | 113 => ⟨S4x32x32, .f32⟩
  | 114 => ⟨S4x32x32, .f32⟩
  | 115 => ⟨S1x1x1x1, .f32⟩
  | 116 => ⟨S_, .f32⟩
  | 117 => ⟨S4x1x32x32, .f32⟩
  | 118 => ⟨S4x32x32, .f32⟩
  | 119 => ⟨S4x32x32, .f32⟩
  | 120 => ⟨S4x32x32, .f32⟩
  | 121 => ⟨S4x32x32, .f32⟩
  | 122 => ⟨S1x1x1x1, .f32⟩
  | 123 => ⟨S_, .f32⟩
  | 124 => ⟨S4x1x32x32, .f32⟩
  | 125 => ⟨S4x32x32, .f32⟩
  | 126 => ⟨S4x32x32, .f32⟩
  | 127 => ⟨S4x32x32, .f32⟩
  | _ => ⟨S4x16x128x32x32, .f32⟩

abbrev hbmTy0_2 (i : Nat) : BufTy := match i % 128 with
  | 0 => ⟨S4x32x32, .f32⟩
  | 1 => ⟨S1x1x1x1, .f32⟩
  | 2 => ⟨S_, .f32⟩
  | 3 => ⟨S4x1x32x32, .f32⟩
  | 4 => ⟨S4x32x32, .f32⟩
  | 5 => ⟨S4x32x32, .f32⟩
  | 6 => ⟨S4x32x32, .f32⟩
  | 7 => ⟨S4x32x32, .f32⟩
  | 8 => ⟨S1x1x1x1, .f32⟩
  | 9 => ⟨S_, .f32⟩
  | 10 => ⟨S4x1x32x32, .f32⟩
  | 11 => ⟨S4x32x32, .f32⟩
  | 12 => ⟨S4x32x32, .f32⟩
  | 13 => ⟨S4x32x32, .f32⟩
  | 14 => ⟨S4x32x32, .f32⟩
  | 15 => ⟨S4x1x32x32, .f32⟩
  | 16 => ⟨S4x1x32x32, .f32⟩
  | 17 => ⟨S4x1x32x32, .f32⟩
  | 18 => ⟨S_, .f32⟩
  | 19 => ⟨S4x1x32x32, .f32⟩
  | 20 => ⟨S4x1x32x32, .f32⟩
  | 21 => ⟨S_, .f32⟩
  | 22 => ⟨S4x1x32x32, .f32⟩
  | 23 => ⟨S4x1x32x32, .f32⟩
  | 24 => ⟨S_, .i32⟩
  | 25 => ⟨S_, .f32⟩
  | 26 => ⟨S4x2x34x34, .f32⟩
  | 27 => ⟨S1x1x1x1, .f32⟩
  | 28 => ⟨S_, .f32⟩
  | 29 => ⟨S4x1x32x32, .f32⟩
  | 30 => ⟨S4x32x32, .f32⟩
  | 31 => ⟨S4x32x32, .f32⟩
  | 32 => ⟨S4x32x32, .f32⟩
  | 33 => ⟨S_, .f32⟩
  | 34 => ⟨S4x32x32, .f32⟩
  | 35 => ⟨S4x32x32, .f32⟩
  | 36 => ⟨S1x1x1x1, .f32⟩
  | 37 => ⟨S_, .f32⟩
  | 38 => ⟨S4x1x32x32, .f32⟩
  | 39 => ⟨S4x32x32, .f32⟩
  | 40 => ⟨S4x32x32, .f32⟩
  | 41 => ⟨S4x32x32, .f32⟩
  | 42 => ⟨S4x32x32, .f32⟩
  | 43 => ⟨S1x1x1x1, .f32⟩
  | 44 => ⟨S_, .f32⟩
  | 45 => ⟨S4x1x32x32, .f32⟩
  | 46 => ⟨S4x32x32, .f32⟩
  | 47 => ⟨S4x32x32, .f32⟩
  | 48 => ⟨S4x32x32, .f32⟩
  | 49 => ⟨S4x32x32, .f32⟩
  | 50 => ⟨S1x1x1x1, .f32⟩
  | 51 => ⟨S_, .f32⟩
  | 52 => ⟨S4x1x32x32, .f32⟩
  | 53 => ⟨S4x32x32, .f32⟩
  | 54 => ⟨S4x32x32, .f32⟩
  | 55 => ⟨S4x32x32, .f32⟩
  | 56 => ⟨S4x32x32, .f32⟩
  | 57 => ⟨S1x1x1x1, .f32⟩
  | 58 => ⟨S_, .f32⟩
  | 59 => ⟨S4x1x32x32, .f32⟩
  | 60 => ⟨S4x32x32, .f32⟩
  | 61 => ⟨S4x32x32, .f32⟩
  | 62 => ⟨S4x32x32, .f32⟩
  | 63 => ⟨S4x32x32, .f32⟩
  | 64 => ⟨S1x1x1x1, .f32⟩
  | 65 => ⟨S_, .f32⟩
  | 66 => ⟨S4x1x32x32, .f32⟩
  | 67 => ⟨S4x32x32, .f32⟩
  | 68 => ⟨S4x32x32, .f32⟩
  | 69 => ⟨S4x32x32, .f32⟩
  | 70 => ⟨S4x32x32, .f32⟩
  | 71 => ⟨S1x1x1x1, .f32⟩
  | 72 => ⟨S_, .f32⟩
  | 73 => ⟨S4x1x32x32, .f32⟩
  | 74 => ⟨S4x32x32, .f32⟩
  | 75 => ⟨S4x32x32, .f32⟩
  | 76 => ⟨S4x32x32, .f32⟩
  | 77 => ⟨S4x32x32, .f32⟩
  | 78 => ⟨S1x1x1x1, .f32⟩
  | 79 => ⟨S_, .f32⟩
  | 80 => ⟨S4x1x32x32, .f32⟩
  | 81 => ⟨S4x32x32, .f32⟩
  | 82 => ⟨S4x32x32, .f32⟩
  | 83 => ⟨S4x32x32, .f32⟩
  | 84 => ⟨S4x32x32, .f32⟩
  | 85 => ⟨S1x1x1x1, .f32⟩
  | 86 => ⟨S_, .f32⟩
  | 87 => ⟨S4x1x32x32, .f32⟩
  | 88 => ⟨S4x32x32, .f32⟩
  | 89 => ⟨S4x32x32, .f32⟩
  | 90 => ⟨S4x32x32, .f32⟩
  | 91 => ⟨S4x32x32, .f32⟩
  | 92 => ⟨S1x1x1x1, .f32⟩
  | 93 => ⟨S_, .f32⟩
  | 94 => ⟨S4x1x32x32, .f32⟩
  | 95 => ⟨S4x32x32, .f32⟩
  | 96 => ⟨S4x32x32, .f32⟩
  | 97 => ⟨S4x32x32, .f32⟩
  | 98 => ⟨S4x32x32, .f32⟩
  | 99 => ⟨S1x1x1x1, .f32⟩
  | 100 => ⟨S_, .f32⟩
  | 101 => ⟨S4x1x32x32, .f32⟩
  | 102 => ⟨S4x32x32, .f32⟩
  | 103 => ⟨S4x32x32, .f32⟩
  | 104 => ⟨S4x32x32, .f32⟩
  | 105 => ⟨S4x32x32, .f32⟩
  | 106 => ⟨S1x1x1x1, .f32⟩
  | 107 => ⟨S_, .f32⟩
  | 108 => ⟨S4x1x32x32, .f32⟩
  | 109 => ⟨S4x32x32, .f32⟩
  | 110 => ⟨S4x32x32, .f32⟩
  | 111 => ⟨S4x32x32, .f32⟩
  | 112 => ⟨S4x32x32, .f32⟩
  | 113 => ⟨S1x1x1x1, .f32⟩
  | 114 => ⟨S_, .f32⟩
  | 115 => ⟨S4x1x32x32, .f32⟩
  | 116 => ⟨S4x32x32, .f32⟩
  | 117 => ⟨S4x32x32, .f32⟩
  | 118 => ⟨S4x32x32, .f32⟩
  | 119 => ⟨S4x32x32, .f32⟩
  | 120 => ⟨S1x1x1x1, .f32⟩
  | 121 => ⟨S_, .f32⟩
  | 122 => ⟨S4x1x32x32, .f32⟩
  | 123 => ⟨S4x32x32, .f32⟩
  | 124 => ⟨S4x32x32, .f32⟩
  | 125 => ⟨S4x32x32, .f32⟩
  | 126 => ⟨S4x32x32, .f32⟩
  | 127 => ⟨S1x1x1x1, .f32⟩
  | _ => ⟨S4x16x128x32x32, .f32⟩

abbrev hbmTy0_3 (i : Nat) : BufTy := match i % 128 with
  | 0 => ⟨S_, .f32⟩
  | 1 => ⟨S4x1x32x32, .f32⟩
  | 2 => ⟨S4x32x32, .f32⟩
  | 3 => ⟨S4x32x32, .f32⟩
  | 4 => ⟨S4x32x32, .f32⟩
  | 5 => ⟨S4x32x32, .f32⟩
  | 6 => ⟨S1x1x1x1, .f32⟩
  | 7 => ⟨S_, .f32⟩
  | 8 => ⟨S4x1x32x32, .f32⟩
  | 9 => ⟨S4x32x32, .f32⟩
  | 10 => ⟨S4x32x32, .f32⟩
  | 11 => ⟨S4x32x32, .f32⟩
  | 12 => ⟨S4x32x32, .f32⟩
  | 13 => ⟨S1x1x1x1, .f32⟩
  | 14 => ⟨S_, .f32⟩
  | 15 => ⟨S4x1x32x32, .f32⟩
  | 16 => ⟨S4x32x32, .f32⟩
  | 17 => ⟨S4x32x32, .f32⟩
  | 18 => ⟨S4x32x32, .f32⟩
  | 19 => ⟨S4x32x32, .f32⟩
  | 20 => ⟨S1x1x1x1, .f32⟩
  | 21 => ⟨S_, .f32⟩
  | 22 => ⟨S4x1x32x32, .f32⟩
  | 23 => ⟨S4x32x32, .f32⟩
  | 24 => ⟨S4x32x32, .f32⟩
  | 25 => ⟨S4x32x32, .f32⟩
  | 26 => ⟨S4x32x32, .f32⟩
  | 27 => ⟨S4x1x32x32, .f32⟩
  | 28 => ⟨S4x1x32x32, .f32⟩
  | 29 => ⟨S4x1x32x32, .f32⟩
  | 30 => ⟨S_, .f32⟩
  | 31 => ⟨S4x1x32x32, .f32⟩
  | 32 => ⟨S4x1x32x32, .f32⟩
  | 33 => ⟨S_, .f32⟩
  | 34 => ⟨S4x1x32x32, .f32⟩
  | 35 => ⟨S4x1x32x32, .f32⟩
  | 36 => ⟨S4x2048x32x32, .f32⟩
  | 37 => ⟨S4x2048x32x32, .f32⟩
  | 38 => ⟨S4x2048x32x32, .f32⟩
  | 39 => ⟨S4x2048x32x32, .f32⟩
  | 40 => ⟨S4x2048x32x32, .f32⟩
  | 41 => ⟨S4x16x128x32x32, .f32⟩
  | _ => ⟨S4x16x128x32x32, .f32⟩

abbrev hbmTy (i : Nat) : BufTy := match i / 128 with
  | 0 => hbmTy0_0 i
  | 1 => hbmTy0_1 i
  | 2 => hbmTy0_2 i
  | 3 => hbmTy0_3 i
  | _ => ⟨S4x16x128x32x32, .f32⟩

abbrev bufTy : (tb : Table) → Fin (tcTables nBuf tb) → BufTy
  | .hbm, ⟨i, _⟩ => hbmTy i
  | _, _ => ⟨S4x16x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_values : Ref sig .tc := ⟨.hbm, 31, rfl⟩
abbrev main_indices : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_values_8 : Ref sig .tc := ⟨.hbm, 61, rfl⟩
abbrev main_indices_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_13 : Ref sig .tc := ⟨.hbm, 75, rfl⟩
abbrev main_v52 : Ref sig .tc := ⟨.hbm, 76, rfl⟩
abbrev main_v53 : Ref sig .tc := ⟨.hbm, 77, rfl⟩
abbrev main_c_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_15 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_16 : Ref sig .tc := ⟨.hbm, 92, rfl⟩
abbrev main_v66 : Ref sig .tc := ⟨.hbm, 93, rfl⟩
abbrev main_v67 : Ref sig .tc := ⟨.hbm, 94, rfl⟩
abbrev main_cst_17 : Ref sig .tc := ⟨.hbm, 95, rfl⟩
abbrev main_v68 : Ref sig .tc := ⟨.hbm, 96, rfl⟩
abbrev main_v69 : Ref sig .tc := ⟨.hbm, 97, rfl⟩
abbrev main_cst_18 : Ref sig .tc := ⟨.hbm, 98, rfl⟩
abbrev main_cst_19 : Ref sig .tc := ⟨.hbm, 99, rfl⟩
abbrev main_call0_v0 : Ref sig .tc := ⟨.hbm, 100, rfl⟩
abbrev main_call0_v1 : Ref sig .tc := ⟨.hbm, 101, rfl⟩
abbrev main_v70 : Ref sig .tc := ⟨.hbm, 102, rfl⟩
abbrev main_cst_20 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_21 : Ref sig .tc := ⟨.hbm, 114, rfl⟩
abbrev main_v81 : Ref sig .tc := ⟨.hbm, 115, rfl⟩
abbrev main_v82 : Ref sig .tc := ⟨.hbm, 116, rfl⟩
abbrev main_cst_22 : Ref sig .tc := ⟨.hbm, 117, rfl⟩
abbrev main_v83 : Ref sig .tc := ⟨.hbm, 118, rfl⟩
abbrev main_v84 : Ref sig .tc := ⟨.hbm, 119, rfl⟩
abbrev main_cst_23 : Ref sig .tc := ⟨.hbm, 120, rfl⟩
abbrev main_v85 : Ref sig .tc := ⟨.hbm, 121, rfl⟩
abbrev main_v86 : Ref sig .tc := ⟨.hbm, 122, rfl⟩
abbrev main_cst_24 : Ref sig .tc := ⟨.hbm, 123, rfl⟩
abbrev main_v87 : Ref sig .tc := ⟨.hbm, 124, rfl⟩
abbrev main_v88 : Ref sig .tc := ⟨.hbm, 125, rfl⟩
abbrev main_cst_25 : Ref sig .tc := ⟨.hbm, 126, rfl⟩
abbrev main_v89 : Ref sig .tc := ⟨.hbm, 127, rfl⟩
abbrev main_v90 : Ref sig .tc := ⟨.hbm, 128, rfl⟩
abbrev main_cst_26 : Ref sig .tc := ⟨.hbm, 129, rfl⟩
abbrev main_v91 : Ref sig .tc := ⟨.hbm, 130, rfl⟩
abbrev main_v92 : Ref sig .tc := ⟨.hbm, 131, rfl⟩
abbrev main_cst_27 : Ref sig .tc := ⟨.hbm, 132, rfl⟩
abbrev main_v93 : Ref sig .tc := ⟨.hbm, 133, rfl⟩
abbrev main_v94 : Ref sig .tc := ⟨.hbm, 134, rfl⟩
abbrev main_cst_28 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_29 : Ref sig .tc := ⟨.hbm, 140, rfl⟩
abbrev main_call1_v0 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_30 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_cst_31 : Ref sig .tc := ⟨.hbm, 274, rfl⟩
abbrev main_v230 : Ref sig .tc := ⟨.hbm, 275, rfl⟩
abbrev main_v231 : Ref sig .tc := ⟨.hbm, 276, rfl⟩
abbrev main_cst_32 : Ref sig .tc := ⟨.hbm, 277, rfl⟩
abbrev main_v232 : Ref sig .tc := ⟨.hbm, 278, rfl⟩
abbrev main_v233 : Ref sig .tc := ⟨.hbm, 279, rfl⟩
abbrev main_c_33 : Ref sig .tc := ⟨.hbm, 280, rfl⟩
abbrev main_call2_v0 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_cst_34 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩
abbrev main_v282 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩
abbrev main_v338 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_v347 : Ref sig .tc := ⟨.hbm, 396, rfl⟩
abbrev main_v348 : Ref sig .tc := ⟨.hbm, 397, rfl⟩
abbrev main_v349 : Ref sig .tc := ⟨.hbm, 398, rfl⟩
abbrev main_v350 : Ref sig .tc := ⟨.hbm, 399, rfl⟩
abbrev main_v351 : Ref sig .tc := ⟨.hbm, 400, rfl⟩
abbrev main_v352 : Ref sig .tc := ⟨.hbm, 401, rfl⟩
abbrev main_v353 : Ref sig .tc := ⟨.hbm, 402, rfl⟩
abbrev main_v354 : Ref sig .tc := ⟨.hbm, 403, rfl⟩
abbrev main_v355 : Ref sig .tc := ⟨.hbm, 404, rfl⟩
abbrev main_v356 : Ref sig .tc := ⟨.hbm, 405, rfl⟩
abbrev main_v357 : Ref sig .tc := ⟨.hbm, 406, rfl⟩
abbrev main_v358 : Ref sig .tc := ⟨.hbm, 407, rfl⟩
abbrev main_v359 : Ref sig .tc := ⟨.hbm, 408, rfl⟩
abbrev main_v360 : Ref sig .tc := ⟨.hbm, 409, rfl⟩
abbrev main_v361 : Ref sig .tc := ⟨.hbm, 410, rfl⟩
abbrev main_v362 : Ref sig .tc := ⟨.hbm, 411, rfl⟩
abbrev main_v363 : Ref sig .tc := ⟨.hbm, 412, rfl⟩
abbrev main_v364 : Ref sig .tc := ⟨.hbm, 413, rfl⟩
abbrev main_cst_35 : Ref sig .tc := ⟨.hbm, 414, rfl⟩
abbrev main_v365 : Ref sig .tc := ⟨.hbm, 415, rfl⟩
abbrev main_v366 : Ref sig .tc := ⟨.hbm, 416, rfl⟩
abbrev main_cst_36 : Ref sig .tc := ⟨.hbm, 417, rfl⟩
abbrev main_v367 : Ref sig .tc := ⟨.hbm, 418, rfl⟩
abbrev main_v368 : Ref sig .tc := ⟨.hbm, 419, rfl⟩
abbrev main_v369 : Ref sig .tc := ⟨.hbm, 420, rfl⟩
abbrev main_v370 : Ref sig .tc := ⟨.hbm, 421, rfl⟩
abbrev main_v371 : Ref sig .tc := ⟨.hbm, 422, rfl⟩
abbrev main_v372 : Ref sig .tc := ⟨.hbm, 423, rfl⟩
abbrev main_v373 : Ref sig .tc := ⟨.hbm, 424, rfl⟩
abbrev main_v374 : Ref sig .tc := ⟨.hbm, 425, rfl⟩

abbrev nD : Nat := 1
abbrev τ : Topo := Topo.v7x

variable {F : FTy → Type} [FloatOps F]
-- ==== Proof.KernelRun.lean ====
/-
  The idealized kernel's run with its result read: the generated frame's launch, its last thread state read at the result buffer too. The
  result is what the last host stretch leaves (`Gen.W5`), which `Proof/KernelValue.lean` reads index by index.
-/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments as launched. -/
theorem run : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Run

end
-- ==== Proof.Sums.lean ====
/-
  Sums of extended reals whose terms are real.
-/
module

public import Idealize.ShloMosaic.Lib.IdealHost

@[expose] public section

noncomputable section

namespace Cert.Sums

/-- The sum of the images is the image of the sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of the images over a table that has an element is the image of a real. -/
theorem fold_max_coe {ι : Type} (s : Finset ι) (hs : s.Nonempty) (f : ι → ℝ) :
    ∃ r : ℝ, Finset.fold max (⊥ : EReal) (fun i => ((f i : ℝ) : EReal)) s = (r : EReal) := by
  classical
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

end Cert.Sums

end
-- ==== Proof.Rank.lean ====
/-
  The rank of an element in a table: how many elements stand before it when the larger ones come first and equal
  ones in the order of their indices; and the indicator that the rank is small.
-/
module

public import proofs.«01_k».proof.Proof.Sums
public import Idealize.ShloMosaic.Lib.Pointwise
public import Idealize.ShloMosaic.Lib.IdealHost
public import Idealize.ShloMosaic.Lib.SortFacts

@[expose] public section

set_option maxRecDepth 16384

noncomputable section

namespace Cert.Rank

open Idealize.ShloMosaic

/-- Element `j` stands before element `i`. -/
def Before {n : ℕ} (v : Fin n → EReal) (j i : Fin n) : Prop := v i < v j ∨ (v j = v i ∧ j < i)

/-- How many elements stand before element `i`. -/
def rank {n : ℕ} (v : Fin n → EReal) (i : Fin n) : ℕ := by
  classical exact (Finset.univ.filter fun j => Before v j i).card

/-- One for the elements of rank below `K`, zero for the others. -/
def mark {n : ℕ} (v : Fin n → EReal) (K : ℕ) (i : Fin n) : EReal := if rank v i < K then 1 else 0

theorem Before.trans {n : ℕ} {v : Fin n → EReal} {a b c : Fin n} (h : Before v a b) (h' : Before v b c) : Before v a c := by
  unfold Before at *
  rcases h with h | ⟨h, k⟩ <;> rcases h' with h' | ⟨h', k'⟩
  · exact .inl (h'.trans h)
  · exact .inl (h' ▸ h)
  · exact .inl (h ▸ h')
  · exact .inr ⟨h.trans h', k.trans k'⟩

theorem Before.irrefl {n : ℕ} {v : Fin n → EReal} {a : Fin n} : ¬ Before v a a := by
  simp [Before]

/-- The comparison that the sort is given. -/
def larger {n : ℕ} (v : Fin n → EReal) (k k' : Fin n) : Bool := by
  classical exact decide (v k' < v k)

theorem pairwise_insert {n : ℕ} (v : Fin n → EReal) (a : Fin n) (l : List (Fin n)) (ha : ∀ b ∈ l, a < b)
    (hl : l.Pairwise (Before v)) : (insertBefore (larger v) a l).Pairwise (Before v) := by
  induction l with
  | nil => exact List.pairwise_singleton _ _
  | cons b l ih =>
    rw [List.pairwise_cons] at hl
    unfold insertBefore
    by_cases h : v a < v b
    · rw [if_pos (by simpa [larger] using h), List.pairwise_cons]
      refine ⟨fun c hc => ?_, ih (fun c hc => ha c (by simp [hc])) hl.2⟩
      rcases List.mem_cons.1 ((perm_insertBefore _ a l).mem_iff.1 hc) with rfl | hc
      · exact .inl h
      · exact hl.1 c hc
    · rw [if_neg (by simpa [larger] using h), List.pairwise_cons]
      have hab : Before v a b := by
        rcases lt_or_eq_of_le (not_lt.1 h) with h | h
        · exact .inl h
        · exact .inr ⟨h.symm, ha b (by simp)⟩
      refine ⟨fun c hc => ?_, List.pairwise_cons.2 hl⟩
      rcases List.mem_cons.1 hc with rfl | hc
      · exact hab
      · exact hab.trans (hl.1 c hc)

theorem pairwise_sort {n : ℕ} (v : Fin n → EReal) (l : List (Fin n)) (hl : l.Pairwise (· < ·)) :
    (stableSort (larger v) l).Pairwise (Before v) := by
  induction l with
  | nil => exact List.Pairwise.nil
  | cons a l ih =>
    rw [List.pairwise_cons] at hl
    exact pairwise_insert v a _ (fun b hb => hl.1 b ((perm_stableSort _ l).mem_iff.1 hb)) (ih hl.2)

/-- The stable sort, the larger elements first, lists the positions in the order of `Before`. -/
theorem sorted_before {n : ℕ} (v : Fin n → EReal) (k k' : Fin n) (h : k < k') :
    Before v (sortedFrom (larger v) k) (sortedFrom (larger v) k') := by
  have hp : (sortPositions n (larger v)).Pairwise (Before v) :=
    pairwise_sort v _ (List.pairwise_lt_finRange n)
  exact List.pairwise_iff_get.1 hp _ _ h

/-- The position that stands at place `k` has rank `k`. -/
theorem rank_sorted {n : ℕ} (v : Fin n → EReal) (k : Fin n) : rank v (sortedFrom (larger v) k) = k := by
  classical
  have h : (Finset.univ.filter fun j => Before v j (sortedFrom (larger v) k))
      = (Finset.univ.filter fun k' : Fin n => k' < k).image (sortedFrom (larger v)) := by
    ext j
    obtain ⟨k', rfl⟩ := sortedFrom_surjective (larger v) j
    simp only [Finset.mem_filter, Finset.mem_univ, true_and, Finset.mem_image]
    constructor
    · intro hb
      refine ⟨k', ?_, rfl⟩
      rcases lt_trichotomy k' k with h | h | h
      · exact h
      · exact absurd (h ▸ hb) Before.irrefl
      · exact absurd (hb.trans (sorted_before v k k' h)) Before.irrefl
    · rintro ⟨k'', hk, he⟩
      rw [← he]
      exact sorted_before v _ _ hk
  unfold rank
  rw [h, Finset.card_image_of_injective _ (sortedFrom_injective _)]
  rw [show (Finset.univ.filter fun k' : Fin n => k' < k) = Finset.Iio k from by ext; simp, Fin.card_Iio]

/-- A position stands among the first `K` exactly when its rank is below `K`. -/
theorem among_first {n : ℕ} (v : Fin n → EReal) (K : ℕ) (i : Fin n) :
    (∃ k : Fin n, k.val < K ∧ sortedFrom (larger v) k = i) ↔ rank v i < K := by
  constructor
  · rintro ⟨k, hk, rfl⟩
    rwa [rank_sorted]
  · intro h
    obtain ⟨k, rfl⟩ := sortedFrom_surjective (larger v) i
    exact ⟨k, by rwa [rank_sorted] at h, rfl⟩

/-- One when the element has rank below `K` in one of the four tables. -/
def flag {n : ℕ} (v : Fin 4 → Fin n → EReal) (K : ℕ) (i : Fin n) : EReal := by
  classical exact if ∃ m, rank (v m) i < K then 1 else 0

/-- The greatest of the four indicators. -/
theorem max_marks {n : ℕ} (v : Fin 4 → Fin n → EReal) (K : ℕ) (i : Fin n) :
    max (max (max (max 0 (mark (v 0) K i)) (mark (v 1) K i)) (mark (v 2) K i)) (mark (v 3) K i) = flag v K i := by
  unfold flag mark
  by_cases h0 : rank (v 0) i < K <;> by_cases h1 : rank (v 1) i < K <;> by_cases h2 : rank (v 2) i < K <;>
    by_cases h3 : rank (v 3) i < K <;> simp [h0, h1, h2, h3, Fin.exists_fin_succ]

/-- A bit widened to a word and read as a number. -/
theorem sitofp_bit (b : Bool) :
    (FloatOps.sitofp (F := Ideal) FTy.f32 (BitVec.setWidth 32 (BitVec.ofBool b)) : EReal) = if b then 1 else 0 := by
  cases b
  · show (((0#32 : BitVec 32).toInt : ℝ) : EReal) = _
    simp
  · show (((1#32 : BitVec 32).toInt : ℝ) : EReal) = _
    simp

theorem slt_small (x c : ℕ) (hx : x < 1024) (hc : c < 1024) :
    IntOp.cmpi CmpIPredicate.slt (BitVec.ofNat 32 x) (BitVec.ofNat 32 c) = BitVec.ofBool (decide (x < c)) := by
  have h (k : ℕ) (hk : k < 1024) : (BitVec.ofNat 32 k).toInt = k := by
    rw [BitVec.toInt_eq_toNat_of_lt] <;> simp <;> omega
  simp only [IntOp.cmpi, BitVec.slt, h x hx, h c hc, Nat.cast_lt]

theorem bits (a b c : Bool) :
    IntOp.ori (BitVec.ofBool a) (IntOp.andi (BitVec.ofBool b) (BitVec.ofBool c)) = BitVec.ofBool (a || (b && c)) := by
  revert a b c; decide

/-- The count of the elements before element `i`, as the sum of their indicators. -/
theorem sum_bits {n : ℕ} (hn : n ≤ 1024) (v : Fin n → EReal) (i : Fin n) :
    (∑ x : Fin n, (FloatOps.sitofp (F := Ideal) FTy.f32
        (BitVec.setWidth 32
          (IntOp.ori (BitVec.ofBool (decide (v i < v x)))
            (IntOp.andi (BitVec.ofBool (decide (v x = v i)))
              (IntOp.cmpi CmpIPredicate.slt (BitVec.ofNat 32 ↑x) (BitVec.ofNat 32 ↑i))))) : EReal))
      = ((rank v i : ℝ) : EReal) := by
  classical
  have h : ∀ x : Fin n, (FloatOps.sitofp (F := Ideal) FTy.f32
        (BitVec.setWidth 32
          (IntOp.ori (BitVec.ofBool (decide (v i < v x)))
            (IntOp.andi (BitVec.ofBool (decide (v x = v i)))
              (IntOp.cmpi CmpIPredicate.slt (BitVec.ofNat 32 ↑x) (BitVec.ofNat 32 ↑i))))) : EReal)
      = (((if Before v x i then 1 else 0 : ℕ) : ℝ) : EReal) := fun x => by
    rw [slt_small _ _ (by omega) (by omega), bits, sitofp_bit]
    unfold Before
    by_cases h : v i < v x ∨ (v x = v i ∧ x < i) <;> simp [h]
  simp only [h]
  rw [Sums.coe_sum]
  congr 1
  rw [← Nat.cast_sum]
  congr 1
  rw [Finset.sum_boole]
  simp [rank]

/-- The indicator that the count is below `K`. -/
theorem below {n : ℕ} (v : Fin n → EReal) (i : Fin n) (K : ℕ) (b : BitVec 32) (hb : Ideal.ofBits FTy.f32 b = ((K : ℝ) : EReal)) :
    (FloatOps.sitofp (F := Ideal) FTy.f32
      (BitVec.setWidth 32 (BitVec.ofBool (decide (((rank v i : ℝ) : EReal) < Ideal.ofBits FTy.f32 b)))) : EReal)
      = mark v K i := by
  rw [sitofp_bit, hb]
  unfold mark
  simp

theorem bits64 : Ideal.ofBits FTy.f32 1115684864#32 = ((64 : ℕ) : ℝ) := by
  simp [Ideal.ofBits, Ideal.ieee, -EReal.coe_mul]; norm_num

theorem bits8 : Ideal.ofBits FTy.f32 0x41000000#32 = ((8 : ℕ) : ℝ) := by
  simp [Ideal.ofBits, Ideal.ieee, -EReal.coe_mul]; norm_num

/-- The exclusive or of two indicators, as the kernel computes it. -/
def xor01 (a b : EReal) : EReal := a + b - Ideal.ofBits FTy.f32 0x40000000#32 * a * b

theorem flag_cases {n : ℕ} (v : Fin 4 → Fin n → EReal) (K : ℕ) (i : Fin n) : flag v K i = 0 ∨ flag v K i = 1 := by
  unfold flag
  split <;> simp

theorem bits2 : Ideal.ofBits FTy.f32 0x40000000#32 = ((2 : ℝ) : EReal) := by
  simp [Ideal.ofBits, Ideal.ieee, -EReal.coe_mul]; norm_num

theorem bitsHalf : Ideal.ofBits FTy.f32 0x3F000000#32 = ((1 / 2 : ℝ) : EReal) := by
  simp [Ideal.ofBits, Ideal.ieee, -EReal.coe_mul]; norm_num

/-- The exclusive or, as the reference decides it: half the sum of the two indicators is a half. -/
theorem xor_eq (a b : EReal) (ha : a = 0 ∨ a = 1) (hb : b = 0 ∨ b = 1) :
    (if Ideal.div (a + b) (Ideal.ofBits FTy.f32 1073741824#32) = Ideal.ofBits FTy.f32 1056964608#32 then (1 : EReal) else 0)
      = xor01 a b ∧ (xor01 a b = 0 ∨ xor01 a b = 1) := by
  have hd (r : ℝ) : Ideal.div (r : EReal) ((2 : ℝ) : EReal) = ((r / 2 : ℝ) : EReal) := by
    unfold Ideal.div
    rw [if_neg (by norm_cast), div_eq_mul_inv, EReal.coe_mul, EReal.coe_inv]
  have key (p q : ℝ) (hp : p = 0 ∨ p = 1) (hq : q = 0 ∨ q = 1) :
      (if Ideal.div ((p : EReal) + q) ((2 : ℝ) : EReal) = ((1 / 2 : ℝ) : EReal) then ((1 : ℝ) : EReal) else ((0 : ℝ) : EReal))
        = (p : EReal) + q - ((2 : ℝ) : EReal) * p * q
      ∧ ((p : EReal) + q - ((2 : ℝ) : EReal) * p * q = ((0 : ℝ) : EReal) ∨ (p : EReal) + q - ((2 : ℝ) : EReal) * p * q = ((1 : ℝ) : EReal)) := by
    rw [← EReal.coe_add, hd, ← EReal.coe_mul, ← EReal.coe_mul, ← EReal.coe_sub]
    simp only [EReal.coe_eq_coe_iff, ← apply_ite (f := fun r : ℝ => (r : EReal))]
    rcases hp with rfl | rfl <;> rcases hq with rfl | rfl <;> norm_num
  unfold xor01
  rw [bits2, bitsHalf]
  rcases ha with rfl | rfl <;> rcases hb with rfl | rfl
  · exact key 0 0 (.inl rfl) (.inl rfl)
  · exact key 0 1 (.inl rfl) (.inr rfl)
  · exact key 1 0 (.inr rfl) (.inl rfl)
  · exact key 1 1 (.inr rfl) (.inr rfl)

end Cert.Rank

end
-- ==== Proof.RefMask.lean ====
/-
  The reference's mask, read at an index.
-/
module

public import proofs.«01_k».proof.Proof.Gen.ReferenceIdeal.Run
public import proofs.«01_k».proof.Proof.Rank
public import Idealize.ShloMosaic.Lib.Routing.OpsSet
public import Idealize.ShloMosaic.Lib.Routing.OpsPair

@[expose] public section

set_option maxRecDepth 16384

noncomputable section

namespace Cert.ReferenceIdeal.RefMask

open Idealize.ShloMosaic Idealize.ShloMosaic.TcCoe Cert.ReferenceIdeal Cert.ReferenceIdeal.Gen Cert.ReferenceIdeal.Value

theorem startA (idx : IVec S4x16x64x2 32) (n : Fin 4) (t : Fin 16) (k : Fin 64) (q : Fin 2) :
    scatter_S16x128_S4x16x64x2_S4x16x64_n_01_01_3.start (ix3 n t k) idx q = (idx (ix4 n t k q)).toInt := by
  unfold ScatterDims.start
  rw [dif_pos (by fin_cases q <;> decide)]
  congr 2
  funext a
  fin_cases q <;> fin_cases a <;> rfl

theorem windowA (n : Fin 4) (t : Fin 16) (k : Fin 64) (q : Fin 2) :
    scatter_S16x128_S4x16x64x2_S4x16x64_n_01_01_3.window (ix3 n t k) q = 0 := by
  fin_cases q <;> rfl

/-- Where an update of the first scatter lands. -/
theorem landsA (idx : IVec S4x16x64x2 32) (n : Fin 4) (t : Fin 16) (k : Fin 64) (a : Fin 16) (b : Fin 128) :
    scatter_S16x128_S4x16x64x2_S4x16x64_n_01_01_3.resultIdx? (ix3 n t k) idx = some (ix2 a b)
      ↔ (idx (ix4 n t k 0)).toInt = a.val ∧ (idx (ix4 n t k 1)).toInt = b.val := by
  rw [Routing.resultIdx?_eq_some]
  constructor
  · intro h
    have h0 := h (0 : Fin 2)
    have h1 := h (1 : Fin 2)
    rw [startA, windowA] at h0 h1
    simpa using And.intro h0 h1
  · rintro ⟨h0, h1⟩ q
    rw [startA, windowA]
    fin_cases q
    · simpa using h0
    · simpa using h1

theorem startB (idx : IVec S4x128x8x2 32) (n : Fin 4) (t : Fin 128) (k : Fin 8) (q : Fin 2) :
    scatter_S128x16_S4x128x8x2_S4x128x8_n_01_01_3.start (ix3 n t k) idx q = (idx (ix4 n t k q)).toInt := by
  unfold ScatterDims.start
  rw [dif_pos (by fin_cases q <;> decide)]
  congr 2
  funext a
  fin_cases q <;> fin_cases a <;> rfl

theorem windowB (n : Fin 4) (t : Fin 128) (k : Fin 8) (q : Fin 2) :
    scatter_S128x16_S4x128x8x2_S4x128x8_n_01_01_3.window (ix3 n t k) q = 0 := by
  fin_cases q <;> rfl

/-- Where an update of the second scatter lands. -/
theorem landsB (idx : IVec S4x128x8x2 32) (n : Fin 4) (t : Fin 128) (k : Fin 8) (a : Fin 128) (b : Fin 16) :
    scatter_S128x16_S4x128x8x2_S4x128x8_n_01_01_3.resultIdx? (ix3 n t k) idx = some (ix2 a b)
      ↔ (idx (ix4 n t k 0)).toInt = a.val ∧ (idx (ix4 n t k 1)).toInt = b.val := by
  rw [Routing.resultIdx?_eq_some]
  constructor
  · intro h
    have h0 := h (0 : Fin 2)
    have h1 := h (1 : Fin 2)
    rw [startB, windowB] at h0 h1
    simpa using And.intro h0 h1
  · rintro ⟨h0, h1⟩ q
    rw [startB, windowB]
    fin_cases q
    · simpa using h0
    · simpa using h1

/-- The stable sort by the larger value first, in the comparison of the reference. -/
theorem larger_eq {n : ℕ} (v : Fin n → EReal) :
    (fun k k' => FloatOps.cmpfTotal (F := Ideal) (φ := .f32) CmpDirection.gt (v k) (v k') == 1#1) = Rank.larger v := by
  funext k k'
  unfold Rank.larger
  rw [Ideal.cmpfTotal_def]
  by_cases h : v k' < v k
  · simp [h, Ideal.cmp, CmpDirection.ordered]
  · simp [h, Ideal.cmp, CmpDirection.ordered]

theorem topA (v : FVec Ideal S4x16x128 .f32) (n : Fin 4) (t : Fin 16) (k : Fin 64) :
    (Host.topK S4x16x64 2 (FloatOps.cmpfTotal .gt) v sliceFits_S4x16x128_S4x16x64).2 (ix3 n t k)
      = BitVec.ofNat 32 (sortedFrom (Rank.larger fun c => v (ix3 n t c)) ⟨k.val, by omega⟩).val := by
  unfold Host.topK Host.sort2
  dsimp only
  pointwise []
  rw [← larger_eq]
  have h : ∀ c : Fin 128, (ix3 n t (⟨k.val, by omega⟩ : Fin 128)).along 2 c = ix3 n t c := fun c => by
    funext a; fin_cases a <;> rfl
  simp only [h]
  rfl

theorem topB (v : FVec Ideal S4x128x16 .f32) (n : Fin 4) (t : Fin 128) (k : Fin 8) :
    (Host.topK S4x128x8 2 (FloatOps.cmpfTotal .gt) v sliceFits_S4x128x16_S4x128x8).2 (ix3 n t k)
      = BitVec.ofNat 32 (sortedFrom (Rank.larger fun c => v (ix3 n t c)) ⟨k.val, by omega⟩).val := by
  unfold Host.topK Host.sort2
  dsimp only
  pointwise []
  rw [← larger_eq]
  have h : ∀ c : Fin 16, (ix3 n t (⟨k.val, by omega⟩ : Fin 16)).along 2 c = ix3 n t c := fun c => by
    funext a; fin_cases a <;> rfl
  simp only [h]
  rfl

variable (V0 : Valuation τ sig (Elt Ideal))

/-- The table of the features after the linear layer, named by its elements. -/
abbrev tab (V0 : Valuation τ sig (Elt Ideal)) (n : Fin 4) (t : Fin 16) (c : Fin 128) : EReal :=
  (res_main_v20 V0 : FVec Ideal S4x16x128 .f32) (ix3 n t c)

theorem indices_at (n : Fin 4) (t : Fin 16) (k : Fin 64) :
    (res_main_indices V0 : IVec S4x16x64 32) (ix3 n t k)
      = BitVec.ofNat 32 (sortedFrom (Rank.larger fun c => tab V0 n t c) ⟨k.val, by omega⟩).val := by
  unfold res_main_indices
  exact topA _ n t k

theorem indices_9_at (n : Fin 4) (c : Fin 128) (k : Fin 8) :
    (res_main_indices_9 V0 : IVec S4x128x8 32) (ix3 n c k)
      = BitVec.ofNat 32 (sortedFrom (Rank.larger fun t => tab V0 n t c) ⟨k.val, by omega⟩).val := by
  unfold res_main_indices_9 res_main_v42
  refine (topB _ n c k).trans ?_
  pointwise []

theorem word_toInt (x : ℕ) (hx : x < 1024) : (BitVec.ofNat 32 x).toInt = x := by
  rw [BitVec.toInt_eq_toNat_of_lt] <;> simp <;> omega

/-- A word below the sign bit is not negative, so the wrapping leaves it. -/
theorem word_select (x : ℕ) (hx : x < 1024) (z : BitVec 32) :
    (if IntOp.cmpi CmpIPredicate.slt (BitVec.ofNat 32 x) 0#32 = 1#1 then z else BitVec.ofNat 32 x) = BitVec.ofNat 32 x := by
  rw [if_neg]
  have h : ¬ ((x : ℤ) < 0) := by omega
  simp [IntOp.cmpi, BitVec.slt, word_toInt x hx, h]

/-- The pairs of index words of the first scatter. -/
def pairA (T I : IVec S4x16x64 32) : IVec S4x16x64x2 32 :=
  concatenate S4x16x64x2 3
    [⟨S4x16x64x1, broadcastInDim S4x16x64x1 ![0, 1, 2] bcast_S4x16x64_S4x16x64x1_0_1_2
      (select (cmpi CmpIPredicate.slt T (broadcastInDim S4x16x64 ![] bcast_S_S4x16x64 (constantI S_ 32 0#32)))
        (addi T (broadcastInDim S4x16x64 ![] bcast_S_S4x16x64 (constantI S_ 32 16#32))) T)⟩,
     ⟨S4x16x64x1, broadcastInDim S4x16x64x1 ![0, 1, 2] bcast_S4x16x64_S4x16x64x1_0_1_2
      (select (cmpi CmpIPredicate.slt I (broadcastInDim S4x16x64 ![] bcast_S_S4x16x64 (constantI S_ 32 0#32)))
        (addi I (broadcastInDim S4x16x64 ![] bcast_S_S4x16x64 (constantI S_ 32 128#32))) I)⟩]
    concatenates_S4x16x64x1_S4x16x64x1_S4x16x64x2_d3

/-- The first scatter, read at an element: one where the element is among the first of some batch's order. -/
theorem scatA (T I : IVec S4x16x64 32) (v : Fin 4 → Fin 16 → Fin 128 → EReal)
    (hT : ∀ n t k, T (ix3 n t k) = BitVec.ofNat 32 t.val)
    (hI : ∀ n t k, I (ix3 n t k) = BitVec.ofNat 32 (sortedFrom (Rank.larger (v n t)) ⟨k.val, by omega⟩).val)
    (t : Fin 16) (c : Fin 128) :
    Host.scatter scatter_S16x128_S4x16x64x2_S4x16x64_n_01_01_3 (fun _ b => b)
      (broadcastInDim S16x128 ![] bcast_S_S16x128 (constant (F := Ideal) S_ FTy.f32 0#32)) (pairA T I)
      (broadcastInDim S4x16x64 ![] bcast_S_S4x16x64 (constant (F := Ideal) S_ FTy.f32 1065353216#32)) (ix2 t c)
      = Rank.flag (fun n => v n t) 64 c := by
  have h0 : ∀ n t k, (pairA T I) (ix4 n t k 0) = BitVec.ofNat 32 t.val := fun n t k => by
    unfold pairA
    pointwise []
    rw [hT]
    exact word_select _ (by omega) _
  have h1 : ∀ n t k, (pairA T I) (ix4 n t k 1) = BitVec.ofNat 32 (sortedFrom (Rank.larger (v n t)) ⟨k.val, by omega⟩).val := fun n t k => by
    unfold pairA
    pointwise []
    rw [hI]
    exact word_select _ (by omega) _
  have hl : ∀ n t' k, scatter_S16x128_S4x16x64x2_S4x16x64_n_01_01_3.resultIdx? (ix3 n t' k) (pairA T I) = some (ix2 t c)
      ↔ t' = t ∧ sortedFrom (Rank.larger (v n t')) ⟨k.val, by omega⟩ = c := fun n t' k => by
    rw [landsA, h0, h1]
    generalize sortedFrom (Rank.larger (v n t')) ⟨k.val, by omega⟩ = s
    rw [word_toInt t'.val (by omega), word_toInt s.val (by omega), Nat.cast_inj, Nat.cast_inj, Fin.ext_iff, Fin.ext_iff]
  unfold Rank.flag
  by_cases hc : ∃ m, Rank.rank (v m t) c < 64
  · rw [if_pos hc]
    obtain ⟨m, hm⟩ := hc
    obtain ⟨k, hk, hs⟩ := (Rank.among_first (v m t) 64 c).2 hm
    refine Routing.scatter_set_hit _ _ _ _ _ 1 (fun k _ => ?_) (ix3 m t ⟨k.val, hk⟩) ((hl m t ⟨k.val, hk⟩).2 ⟨rfl, hs⟩)
    obtain ⟨a, b, d, rfl⟩ : ∃ a b d, k = ix3 a b d := ⟨k 0, k 1, k 2, by funext a; fin_cases a <;> rfl⟩
    pointwise []
  · rw [if_neg hc]
    refine (Routing.scatter_set_miss _ _ _ _ _ fun k hk => hc ?_).trans ?_
    · obtain ⟨n, t', k, rfl⟩ : ∃ n t' k', k = ix3 n t' k' := ⟨k 0, k 1, k 2, by funext a; fin_cases a <;> rfl⟩
      obtain ⟨rfl, hs⟩ := (hl n t' k).1 hk
      exact ⟨n, (Rank.among_first (v n t') 64 c).1 ⟨_, k.isLt, hs⟩⟩
    · pointwise []

/-- The pairs of index words of the second scatter. -/
def pairB (T I : IVec S4x128x8 32) : IVec S4x128x8x2 32 :=
  concatenate S4x128x8x2 3
    [⟨S4x128x8x1, broadcastInDim S4x128x8x1 ![0, 1, 2] bcast_S4x128x8_S4x128x8x1_0_1_2
      (select (cmpi CmpIPredicate.slt T (broadcastInDim S4x128x8 ![] bcast_S_S4x128x8 (constantI S_ 32 0#32)))
        (addi T (broadcastInDim S4x128x8 ![] bcast_S_S4x128x8 (constantI S_ 32 128#32))) T)⟩,
     ⟨S4x128x8x1, broadcastInDim S4x128x8x1 ![0, 1, 2] bcast_S4x128x8_S4x128x8x1_0_1_2
      (select (cmpi CmpIPredicate.slt I (broadcastInDim S4x128x8 ![] bcast_S_S4x128x8 (constantI S_ 32 0#32)))
        (addi I (broadcastInDim S4x128x8 ![] bcast_S_S4x128x8 (constantI S_ 32 16#32))) I)⟩]
    concatenates_S4x128x8x1_S4x128x8x1_S4x128x8x2_d3

/-- The second scatter, read at an element: one where the element is among the first of some batch's order. -/
theorem scatB (T I : IVec S4x128x8 32) (v : Fin 4 → Fin 128 → Fin 16 → EReal)
    (hT : ∀ n t k, T (ix3 n t k) = BitVec.ofNat 32 t.val)
    (hI : ∀ n t k, I (ix3 n t k) = BitVec.ofNat 32 (sortedFrom (Rank.larger (v n t)) ⟨k.val, by omega⟩).val)
    (t : Fin 128) (c : Fin 16) :
    Host.scatter scatter_S128x16_S4x128x8x2_S4x128x8_n_01_01_3 (fun _ b => b)
      (broadcastInDim S128x16 ![] bcast_S_S128x16 (constant (F := Ideal) S_ FTy.f32 0#32)) (pairB T I)
      (broadcastInDim S4x128x8 ![] bcast_S_S4x128x8 (constant (F := Ideal) S_ FTy.f32 1065353216#32)) (ix2 t c)
      = Rank.flag (fun n => v n t) 8 c := by
  have h0 : ∀ n t k, (pairB T I) (ix4 n t k 0) = BitVec.ofNat 32 t.val := fun n t k => by
    unfold pairB
    pointwise []
    rw [hT]
    exact word_select _ (by omega) _
  have h1 : ∀ n t k, (pairB T I) (ix4 n t k 1) = BitVec.ofNat 32 (sortedFrom (Rank.larger (v n t)) ⟨k.val, by omega⟩).val := fun n t k => by
    unfold pairB
    pointwise []
    rw [hI]
    exact word_select _ (by omega) _
  have hl : ∀ n t' k, scatter_S128x16_S4x128x8x2_S4x128x8_n_01_01_3.resultIdx? (ix3 n t' k) (pairB T I) = some (ix2 t c)
      ↔ t' = t ∧ sortedFrom (Rank.larger (v n t')) ⟨k.val, by omega⟩ = c := fun n t' k => by
    rw [landsB, h0, h1]
    generalize sortedFrom (Rank.larger (v n t')) ⟨k.val, by omega⟩ = s
    rw [word_toInt t'.val (by omega), word_toInt s.val (by omega), Nat.cast_inj, Nat.cast_inj, Fin.ext_iff, Fin.ext_iff]
  unfold Rank.flag
  by_cases hc : ∃ m, Rank.rank (v m t) c < 8
  · rw [if_pos hc]
    obtain ⟨m, hm⟩ := hc
    obtain ⟨k, hk, hs⟩ := (Rank.among_first (v m t) 8 c).2 hm
    refine Routing.scatter_set_hit _ _ _ _ _ 1 (fun k _ => ?_) (ix3 m t ⟨k.val, hk⟩) ((hl m t ⟨k.val, hk⟩).2 ⟨rfl, hs⟩)
    obtain ⟨a, b, d, rfl⟩ : ∃ a b d, k = ix3 a b d := ⟨k 0, k 1, k 2, by funext a; fin_cases a <;> rfl⟩
    pointwise []
  · rw [if_neg hc]
    refine (Routing.scatter_set_miss _ _ _ _ _ fun k hk => hc ?_).trans ?_
    · obtain ⟨n, t', k, rfl⟩ : ∃ n t' k', k = ix3 n t' k' := ⟨k 0, k 1, k 2, by funext a; fin_cases a <;> rfl⟩
      obtain ⟨rfl, hs⟩ := (hl n t' k).1 hk
      exact ⟨n, (Rank.among_first (v n t') 8 c).1 ⟨_, k.isLt, hs⟩⟩
    · pointwise []

theorem v70_at (n : Fin 4) (t : Fin 16) (c : Fin 128) :
    (res_main_v70 V0 : FVec Ideal S4x16x128x1x1 .f32) (ix5 n t c 0 0)
      = if Ideal.div (Rank.flag (fun n c => tab V0 n t c) 64 c + Rank.flag (fun n t => tab V0 n t c) 8 t)
            (Ideal.ofBits FTy.f32 1073741824#32) = Ideal.ofBits FTy.f32 1056964608#32 then (1 : EReal) else 0 := by
  unfold res_main_v70
  pointwise []
  have h1 := scatA (res_main_v23 V0) (res_main_indices V0) (fun n t c => tab V0 n t c)
    (fun n t k => by unfold res_main_v23; pointwise []) (fun n t k => indices_at V0 n t k) t c
  have h2 := scatB (res_main_v45 V0) (res_main_indices_9 V0) (fun n c t => tab V0 n t c)
    (fun n t k => by unfold res_main_v45; pointwise []) (fun n t k => indices_9_at V0 n t k) c t
  unfold pairA at h1
  unfold pairB at h2
  rw [h1, h2]

end Cert.ReferenceIdeal.RefMask

end
-- ==== Proof.Stats.lean ====
/-
  The first region of the idealized kernel, read at an index.
-/
module

public import proofs.«01_k».proof.Proof.Gen.KernelIdeal.Frame
public import Idealize.ShloMosaic.Lib.Pipeline.ValueKit
public import Idealize.ShloMosaic.Lib.Pointwise
public import Idealize.ShloMosaic.Lib.IdealHost

@[expose] public section

set_option maxRecDepth 16384

noncomputable section

namespace Cert.KernelIdeal.Stats

open Idealize.ShloMosaic Idealize.ShloMosaic.TcCoe Cert.KernelIdeal Cert.KernelIdeal.Gen

/-- The mean and the maximum of one frame's lane, weighed. -/
def stat (a b : EReal) (f : Fin 1024 → EReal) : EReal :=
  ((Ideal.ofBits FTy.f32 1056964608#32 + a) * Ideal.ofBits FTy.f32 981467136#32) * ∑ x, f x
    + (Ideal.ofBits FTy.f32 1056964608#32 + b)
      * Finset.fold max (Ideal.ofBits FTy.f32 4286578688#32) f Finset.univ

theorem row (a b : Ideal .f32) (v : FVec Ideal S1x1x1024x128 .f32) (c : Fin 128) :
    k0_pay1 (F := Ideal) a b v (ix1 c)
      = a * ∑ p, v (ix4 0 0 p c) + b * Finset.fold max (Ideal.ofBits FTy.f32 4286578688#32) (fun p => v (ix4 0 0 p c)) Finset.univ := by
  unfold k0_pay1
  pointwise []

theorem pay3_at (v : FVec Ideal S1x1 .f32) :
    k0_pay3 (F := Ideal) v
      = (Ideal.ofBits FTy.f32 1056964608#32 + v (ix2 0 0)) * Ideal.ofBits FTy.f32 981467136#32 := by
  unfold k0_pay3
  pointwise []

theorem pay4_at (v : FVec Ideal S1x1 .f32) :
    k0_pay4 (F := Ideal) v = Ideal.ofBits FTy.f32 1056964608#32 + v (ix2 0 0) := by
  unfold k0_pay4
  pointwise []

/-- One row of the block, from the frame it loads. -/
theorem row_at (x0 : Vec Ideal S1x16x1024x128 .f32) (x1 : Vec Ideal S1x2 .f32) (t : Fin 16) (c : Fin 128)
    (v : FVec Ideal S1x1x1024x128 .f32) (h : ∀ p, v (ix4 0 0 p c) = x0 (ix4 0 t p c)) :
    k0_pay1 (F := Ideal) (k0_pay3 (View.ld x1 r0_0)) (k0_pay4 (View.ld x1 r0_1)) v (ix1 c)
      = stat (x1 (ix2 0 0)) (x1 (ix2 0 1)) (fun p => x0 (ix4 0 t p c)) := by
  rw [row, pay3_at, pay4_at]
  have h0 : View.ld x1 r0_0 (ix2 0 0) = x1 (ix2 0 0) := View.ld_unit_apply_of _ _ _ _ _ _ (by intro a; fin_cases a <;> simp)
  have h1 : View.ld x1 r0_1 (ix2 0 0) = x1 (ix2 0 1) := View.ld_unit_apply_of _ _ _ _ _ _ (by intro a; fin_cases a <;> simp)
  simp only [h, h0, h1]
  rfl

theorem out_at (x0 : Vec Ideal S1x16x1024x128 .f32) (x1 : Vec Ideal S1x2 .f32) (t : Fin 16) (c : Fin 128) :
    out0_2 (F := Ideal) x0 x1 (ix3 0 t c)
      = stat (x1 (ix2 0 0)) (x1 (ix2 0 1)) (fun p => x0 (ix4 0 t p c)) := by
  frame_out
  unfold k0_pay2
  pointwise []
  fin_cases t
  · refine Eq.trans ?_ (row_at x0 x1 0 c (View.ld (Val := Elt Ideal) (e' := .f32) x0 r0_2) fun p => ?_)
    · rfl
    · exact View.ld_unit_apply_of _ _ _ _ _ _ (by intro a; fin_cases a <;> simp)
  · refine Eq.trans ?_ (row_at x0 x1 1 c (View.ld (Val := Elt Ideal) (e' := .f32) x0 r0_3) fun p => ?_)
    · rfl
    · exact View.ld_unit_apply_of _ _ _ _ _ _ (by intro a; fin_cases a <;> simp)
  · refine Eq.trans ?_ (row_at x0 x1 2 c (View.ld (Val := Elt Ideal) (e' := .f32) x0 r0_4) fun p => ?_)
    · rfl
    · exact View.ld_unit_apply_of _ _ _ _ _ _ (by intro a; fin_cases a <;> simp)
  · refine Eq.trans ?_ (row_at x0 x1 3 c (View.ld (Val := Elt Ideal) (e' := .f32) x0 r0_5) fun p => ?_)
    · rfl
    · exact View.ld_unit_apply_of _ _ _ _ _ _ (by intro a; fin_cases a <;> simp)
  · refine Eq.trans ?_ (row_at x0 x1 4 c (View.ld (Val := Elt Ideal) (e' := .f32) x0 r0_6) fun p => ?_)
    · rfl
    · exact View.ld_unit_apply_of _ _ _ _ _ _ (by intro a; fin_cases a <;> simp)
  · refine Eq.trans ?_ (row_at x0 x1 5 c (View.ld (Val := Elt Ideal) (e' := .f32) x0 r0_7) fun p => ?_)
    · rfl
    · exact View.ld_unit_apply_of _ _ _ _ _ _ (by intro a; fin_cases a <;> simp)
  · refine Eq.trans ?_ (row_at x0 x1 6 c (View.ld (Val := Elt Ideal) (e' := .f32) x0 r0_8) fun p => ?_)
    · rfl
    · exact View.ld_unit_apply_of _ _ _ _ _ _ (by intro a; fin_cases a <;> simp)
  · refine Eq.trans ?_ (row_at x0 x1 7 c (View.ld (Val := Elt Ideal) (e' := .f32) x0 r0_9) fun p => ?_)
    · rfl
    · exact View.ld_unit_apply_of _ _ _ _ _ _ (by intro a; fin_cases a <;> simp)
  · refine Eq.trans ?_ (row_at x0 x1 8 c (View.ld (Val := Elt Ideal) (e' := .f32) x0 r0_10) fun p => ?_)
    · rfl
    · exact View.ld_unit_apply_of _ _ _ _ _ _ (by intro a; fin_cases a <;> simp)
  · refine Eq.trans ?_ (row_at x0 x1 9 c (View.ld (Val := Elt Ideal) (e' := .f32) x0 r0_11) fun p => ?_)
    · rfl
    · exact View.ld_unit_apply_of _ _ _ _ _ _ (by intro a; fin_cases a <;> simp)
  · refine Eq.trans ?_ (row_at x0 x1 10 c (View.ld (Val := Elt Ideal) (e' := .f32) x0 r0_12) fun p => ?_)
    · rfl
    · exact View.ld_unit_apply_of _ _ _ _ _ _ (by intro a; fin_cases a <;> simp)
  · refine Eq.trans ?_ (row_at x0 x1 11 c (View.ld (Val := Elt Ideal) (e' := .f32) x0 r0_13) fun p => ?_)
    · rfl
    · exact View.ld_unit_apply_of _ _ _ _ _ _ (by intro a; fin_cases a <;> simp)
  · refine Eq.trans ?_ (row_at x0 x1 12 c (View.ld (Val := Elt Ideal) (e' := .f32) x0 r0_14) fun p => ?_)
    · rfl
    · exact View.ld_unit_apply_of _ _ _ _ _ _ (by intro a; fin_cases a <;> simp)
  · refine Eq.trans ?_ (row_at x0 x1 13 c (View.ld (Val := Elt Ideal) (e' := .f32) x0 r0_15) fun p => ?_)
    · rfl
    · exact View.ld_unit_apply_of _ _ _ _ _ _ (by intro a; fin_cases a <;> simp)
  · refine Eq.trans ?_ (row_at x0 x1 14 c (View.ld (Val := Elt Ideal) (e' := .f32) x0 r0_16) fun p => ?_)
    · rfl
    · exact View.ld_unit_apply_of _ _ _ _ _ _ (by intro a; fin_cases a <;> simp)
  · refine Eq.trans ?_ (row_at x0 x1 15 c (View.ld (Val := Elt Ideal) (e' := .f32) x0 r0_17) fun p => ?_)
    · rfl
    · exact View.ld_unit_apply_of _ _ _ _ _ _ (by intro a; fin_cases a <;> simp)

variable (V : (c : Dev nD) → (b : Ref sig .tc) → Buf (Elt Ideal) ((c : Thread nD τ).loc b))

theorem idx0 : ∀ t : Fin cfg0.N, win0_0.index t = ![t.val, 0, 0, 0] ∧ win0_1.index t = ![0, 0]
    ∧ win0_2.index t = ![t.val, 0, 0] := by decide +kernel

/-- The first region leaves the weighed statistics of its two operands in its result array. -/
theorem arr_at (c : Dev nD) (X : Vec Ideal S4x16x1024x128 .f32) (hX : V c main_v1 = X)
    (Y : Vec Ideal S1x2 .f32) (hY : V c main_v3 = Y) :
    (dat0 V c).arrAt 2 cfg0.N = fun i : S4x16x128.Idx => stat (Y (ix2 0 0)) (Y (ix2 0 1)) (fun p => X (ix4 (i 0) (i 1) p (i 2))) := by
  refine (dat0 V c).arrAt_eq_of_covers 2 _ (by decide +kernel) fun t hf y => ?_
  blk_simp
  rw [after0_2]
  have hx : ∀ (k : Fin 16) (p : Fin 1024) (l : Fin 128), iblk0 V c 0 t (ix4 0 k p l) = X (ix4 t k p l) := fun k p l => by
    rw [← hX]; blk_ext [iblk0, (idx0 t).1]
  have hy : ∀ k : Fin 2, iblk0 V c 1 t (ix2 0 k) = Y (ix2 0 k) := fun k => by
    rw [← hY]; blk_ext [iblk0, (idx0 t).2.1]
  have hi : (y : S1x16x128.Idx) = ix3 0 (y 1) (y 2) := by
    funext a; fin_cases a
    · exact Fin.ext (by have := (y 0).isLt; simp at this ⊢)
    · rfl
    · rfl
  refine (congrArg _ hi).trans ((out_at _ _ (y 1) (y 2)).trans ?_)
  rw [hy, hy]
  congr 1
  funext p
  refine (hx (y 1) p (y 2)).trans ?_
  blk_ext [(idx0 t).2.2]

end Cert.KernelIdeal.Stats

end
-- ==== Proof.Mask.lean ====
/-
  The second region of the idealized kernel, read at an index.
-/
module

public import proofs.«01_k».proof.Proof.Gen.KernelIdeal.Frame
public import Idealize.ShloMosaic.Lib.Pipeline.ValueKit
public import Idealize.ShloMosaic.Lib.Pointwise
public import Idealize.ShloMosaic.Lib.IdealHost
public import proofs.«01_k».proof.Proof.Rank

@[expose] public section

set_option maxRecDepth 16384

noncomputable section

namespace Cert.KernelIdeal.Mask

open Idealize.ShloMosaic Idealize.ShloMosaic.TcCoe Cert.KernelIdeal Cert.KernelIdeal.Gen

/-- The features after the linear layer, of one batch. -/
def lin (w : Vec Ideal S16x16 .f32) (v : Vec Ideal S1x16x128 .f32) (t : Fin 16) (c : Fin 128) : EReal :=
  ∑ x : Fin 16, w (ix2 t x) * v (ix3 0 x c)

theorem pay5_at (w : Vec Ideal S16x16 .f32) (v : Vec Ideal S1x16x128 .f32) (t : Fin 16) (c : Fin 128) :
    k1_pay5 (F := Ideal) w v (ix2 t c) = lin w v t c := by
  unfold k1_pay5 lin
  pointwise []

theorem pay8_at (w : Vec Ideal S16x16 .f32) (v : Vec Ideal S1x16x128 .f32) (t : Fin 16) (c : Fin 128) :
    k1_pay8 (F := Ideal) w v (ix2 t c) = lin w v t c := pay5_at w v t c

theorem pay11_at (w : Vec Ideal S16x16 .f32) (v : Vec Ideal S1x16x128 .f32) (t : Fin 16) (c : Fin 128) :
    k1_pay11 (F := Ideal) w v (ix2 t c) = lin w v t c := pay5_at w v t c

theorem pay14_at (w : Vec Ideal S16x16 .f32) (v : Vec Ideal S1x16x128 .f32) (t : Fin 16) (c : Fin 128) :
    k1_pay14 (F := Ideal) w v (ix2 t c) = lin w v t c := pay5_at w v t c

theorem pay6_at (w : Vec Ideal S16x16 .f32) (v : Vec Ideal S1x16x128 .f32) (t : Fin 16) (c : Fin 128) :
    k1_pay6 (F := Ideal) w v (ix2 t c) = max 0 (Rank.mark (lin w v t) 64 c) := by
  have hz := pay5_at w v
  unfold k1_pay6 k1_pay2
  generalize k1_pay5 (F := Ideal) w v = z at hz ⊢
  pointwise []
  simp only [hz]
  rw [Rank.sum_bits (by decide) (lin w v t) c, Rank.below _ _ 64 _ Rank.bits64]

theorem pay7_at (w : Vec Ideal S16x16 .f32) (v : Vec Ideal S1x16x128 .f32) (t : Fin 16) (c : Fin 128) :
    k1_pay7 (F := Ideal) w v (ix2 c t) = ((Rank.rank (fun t => lin w v t c) t : ℝ) : EReal) := by
  have hz := pay5_at w v
  unfold k1_pay7 k1_pay3
  generalize k1_pay5 (F := Ideal) w v = z at hz ⊢
  pointwise []
  simp only [hz]
  rw [Rank.sum_bits (by decide) (fun t => lin w v t c) t]

theorem pay9_at (w : Vec Ideal S16x16 .f32) (v : Vec Ideal S1x16x128 .f32) (y : FVec Ideal S16x128 .f32) (t : Fin 16) (c : Fin 128) :
    k1_pay9 (F := Ideal) w k1_pay2 y v (ix2 t c) = max (y (ix2 t c)) (Rank.mark (lin w v t) 64 c) := by
  have hz := pay8_at w v
  unfold k1_pay9 k1_pay2
  generalize k1_pay8 (F := Ideal) w v = z at hz ⊢
  pointwise []
  simp only [hz]
  rw [Rank.sum_bits (by decide) (lin w v t) c, Rank.below _ _ 64 _ Rank.bits64]

theorem pay12_at (w : Vec Ideal S16x16 .f32) (v : Vec Ideal S1x16x128 .f32) (y : FVec Ideal S16x128 .f32) (t : Fin 16) (c : Fin 128) :
    k1_pay12 (F := Ideal) w k1_pay2 y v (ix2 t c) = max (y (ix2 t c)) (Rank.mark (lin w v t) 64 c) := by
  have hz := pay11_at w v
  unfold k1_pay12 k1_pay2
  generalize k1_pay11 (F := Ideal) w v = z at hz ⊢
  pointwise []
  simp only [hz]
  rw [Rank.sum_bits (by decide) (lin w v t) c, Rank.below _ _ 64 _ Rank.bits64]

theorem pay10_at (w : Vec Ideal S16x16 .f32) (v v' : Vec Ideal S1x16x128 .f32) (t : Fin 16) (c : Fin 128) :
    k1_pay10 (F := Ideal) w k1_pay3 k1_pay4 (k1_pay7 w v) (Scalar.ofBits .f32 0x41000000#32) v' (ix2 c t)
      = max (max 0 (Rank.mark (fun t => lin w v t c) 8 t)) (Rank.mark (fun t => lin w v' t c) 8 t) := by
  have hz := pay8_at w v'
  have hy := pay7_at w v
  unfold k1_pay10 k1_pay3 k1_pay4
  generalize k1_pay8 (F := Ideal) w v' = z at hz ⊢
  generalize k1_pay7 (F := Ideal) w v = y at hy ⊢
  pointwise []
  simp only [hz, hy]
  rw [Rank.sum_bits (by decide) (fun t => lin w v' t c) t, Rank.below _ _ 8 _ Rank.bits8, Rank.below _ _ 8 _ Rank.bits8]

theorem pay13_at (w : Vec Ideal S16x16 .f32) (v : Vec Ideal S1x16x128 .f32) (y : FVec Ideal S128x16 .f32) (t : Fin 16) (c : Fin 128) :
    k1_pay13 (F := Ideal) w k1_pay3 y v (ix2 c t) = max (y (ix2 c t)) (Rank.mark (fun t => lin w v t c) 8 t) := by
  have hz := pay11_at w v
  unfold k1_pay13 k1_pay3
  generalize k1_pay11 (F := Ideal) w v = z at hz ⊢
  pointwise []
  simp only [hz]
  rw [Rank.sum_bits (by decide) (fun t => lin w v t c) t, Rank.below _ _ 8 _ Rank.bits8]

theorem pay1_at (w : Vec Ideal S16x16 .f32) (v : Vec Ideal S1x16x128 .f32) (y : FVec Ideal S16x128 .f32) (y' : FVec Ideal S128x16 .f32)
    (t : Fin 16) (c : Fin 128) :
    k1_pay1 (F := Ideal) k1_pay2 k1_pay3 y y' (k1_pay14 w v) (k1_pay15 w v) (k1_pay16 w v) (k1_pay17 w v) (k1_pay18 w v) (ix2 t c)
      = Rank.xor01 (max (y (ix2 t c)) (Rank.mark (lin w v t) 64 c)) (max (y' (ix2 c t)) (Rank.mark (fun t => lin w v t c) 8 t)) := by
  have hz := pay14_at w v
  unfold k1_pay1 k1_pay15 k1_pay16 k1_pay17 k1_pay18 k1_pay3 k1_pay2 k1_pay15 k1_pay16
  generalize k1_pay14 (F := Ideal) w v = z at hz ⊢
  pointwise []
  simp only [hz]
  rw [Rank.sum_bits (by decide) (lin w v t) c, Rank.below _ _ 64 _ Rank.bits64,
    Rank.sum_bits (by decide) (fun t => lin w v t c) t, Rank.below _ _ 8 _ Rank.bits8]
  rfl

/-- The mask the second region leaves, from the statistics of the four batches and the layer's weights. -/
theorem out_at (x0 : Vec Ideal S4x16x128 .f32) (x1 : Vec Ideal S16x16 .f32) (t : Fin 16) (c : Fin 128) :
    out1_2 (F := Ideal) x0 x1 (ix2 t c)
      = Rank.xor01 (Rank.flag (fun n c => ∑ x : Fin 16, x1 (ix2 t x) * x0 (ix3 n x c)) 64 c)
          (Rank.flag (fun n t => ∑ x : Fin 16, x1 (ix2 t x) * x0 (ix3 n x c)) 8 t) := by
  frame_out
  unfold k1_pay19 k1_pay20
  rw [pay1_at, pay12_at, pay9_at, pay6_at, pay13_at]
  refine (congrArg (fun e => Rank.xor01 _ (max (max e _) _)) (pay10_at _ _ _ t c)).trans ?_
  have h0 : lin x1 (View.ld x0 r1_1) = fun t c => ∑ x : Fin 16, x1 (ix2 t x) * x0 (ix3 0 x c) := by
    funext t c
    exact Finset.sum_congr rfl fun x _ => congrArg (x1 (ix2 t x) * ·) (View.ld_unit_apply_of _ _ _ _ _ _ (by intro a; fin_cases a <;> simp))
  have h1 : lin x1 (View.ld x0 r1_2) = fun t c => ∑ x : Fin 16, x1 (ix2 t x) * x0 (ix3 1 x c) := by
    funext t c
    exact Finset.sum_congr rfl fun x _ => congrArg (x1 (ix2 t x) * ·) (View.ld_unit_apply_of _ _ _ _ _ _ (by intro a; fin_cases a <;> simp))
  have h2 : lin x1 (View.ld x0 r1_3) = fun t c => ∑ x : Fin 16, x1 (ix2 t x) * x0 (ix3 2 x c) := by
    funext t c
    exact Finset.sum_congr rfl fun x _ => congrArg (x1 (ix2 t x) * ·) (View.ld_unit_apply_of _ _ _ _ _ _ (by intro a; fin_cases a <;> simp))
  have h3 : lin x1 (View.ld x0 r1_4) = fun t c => ∑ x : Fin 16, x1 (ix2 t x) * x0 (ix3 3 x c) := by
    funext t c
    exact Finset.sum_congr rfl fun x _ => congrArg (x1 (ix2 t x) * ·) (View.ld_unit_apply_of _ _ _ _ _ _ (by intro a; fin_cases a <;> simp))
  rw [h0, h1, h2, h3, ← Rank.max_marks, ← Rank.max_marks]

variable (V : (c : Dev nD) → (b : Ref sig .tc) → Buf (Elt Ideal) ((c : Thread nD τ).loc b))

theorem idx1 : ∀ t : Fin cfg1.N, win1_0.index t = ![0, 0, 0] ∧ win1_1.index t = ![0, 0]
    ∧ win1_2.index t = ![0, 0] := by decide +kernel

/-- The second region leaves the mask of its two operands in its result array. -/
theorem arr_at (c : Dev nD) (X : Vec Ideal S4x16x128 .f32) (hX : V c main_v4 = X)
    (Y : Vec Ideal S16x16 .f32) (hY : V c main_arg3 = Y) :
    (dat1 V c).arrAt 2 cfg1.N = fun i : S16x128.Idx =>
      Rank.xor01 (Rank.flag (fun n c => ∑ x : Fin 16, Y (ix2 (i 0) x) * X (ix3 n x c)) 64 (i 1))
          (Rank.flag (fun n t => ∑ x : Fin 16, Y (ix2 t x) * X (ix3 n x (i 1))) 8 (i 0)) := by
  refine (dat1 V c).arrAt_eq_of_covers 2 _ (by decide +kernel) fun t hf y => ?_
  blk_simp
  rw [after1_2]
  have hx : ∀ (k : Fin 4) (p : Fin 16) (l : Fin 128), iblk1 V c 0 t (ix3 k p l) = X (ix3 k p l) := fun k p l => by
    rw [← hX]; blk_ext [iblk1, (idx1 t).1]
  have hy : ∀ k l : Fin 16, iblk1 V c 1 t (ix2 k l) = Y (ix2 k l) := fun k l => by
    rw [← hY]; blk_ext [iblk1, (idx1 t).2.1]
  obtain ⟨a, b, hi⟩ : ∃ (a : Fin 16) (b : Fin 128), (y : S16x128.Idx) = ix2 a b :=
    ⟨y 0, y 1, by funext a; fin_cases a <;> rfl⟩
  have e : ((win1_2.blk t).view.emb y : S16x128.Idx) = ix2 a b := by
    refine (congrArg _ hi).trans ?_
    blk_ext [(idx1 t).2.2]
  refine (congrArg _ hi).trans ((out_at _ _ a b).trans ?_)
  simp only [hx, hy]
  rw [e]
  rfl

end Cert.KernelIdeal.Mask

end
-- ==== Proof.Fused.lean ====
/-
  The third region of the idealized kernel: the sums and the maxima over the frames and the lanes.
-/
module

public import proofs.«01_k».proof.Proof.Gen.KernelIdeal.Frame
public import Idealize.ShloMosaic.Lib.Pipeline.ValueKit
public import Idealize.ShloMosaic.Lib.Pointwise
public import Idealize.ShloMosaic.Lib.IdealHost

@[expose] public section

set_option maxRecDepth 16384

noncomputable section

namespace Cert.KernelIdeal.Fused

open Idealize.ShloMosaic Idealize.ShloMosaic.TcCoe Cert.KernelIdeal Cert.KernelIdeal.Gen

theorem ld0 (x0 : Vec Ideal S1x16x1024x128 .f32) (p : Fin 1024) (c : Fin 128) :
    View.ld x0 r2_1 (ix4 0 0 p c) = x0 (ix4 0 0 p c) :=
  View.ld_unit_apply_of _ _ _ _ _ _ (by intro a; fin_cases a <;> simp)

theorem ld1 (x0 : Vec Ideal S1x16x1024x128 .f32) (p : Fin 1024) (c : Fin 128) :
    View.ld x0 r2_2 (ix4 0 0 p c) = x0 (ix4 0 1 p c) :=
  View.ld_unit_apply_of _ _ _ _ _ _ (by intro a; fin_cases a <;> simp)

theorem ld2 (x0 : Vec Ideal S1x16x1024x128 .f32) (p : Fin 1024) (c : Fin 128) :
    View.ld x0 r2_3 (ix4 0 0 p c) = x0 (ix4 0 2 p c) :=
  View.ld_unit_apply_of _ _ _ _ _ _ (by intro a; fin_cases a <;> simp)

theorem ld3 (x0 : Vec Ideal S1x16x1024x128 .f32) (p : Fin 1024) (c : Fin 128) :
    View.ld x0 r2_4 (ix4 0 0 p c) = x0 (ix4 0 3 p c) :=
  View.ld_unit_apply_of _ _ _ _ _ _ (by intro a; fin_cases a <;> simp)

theorem ld4 (x0 : Vec Ideal S1x16x1024x128 .f32) (p : Fin 1024) (c : Fin 128) :
    View.ld x0 r2_5 (ix4 0 0 p c) = x0 (ix4 0 4 p c) :=
  View.ld_unit_apply_of _ _ _ _ _ _ (by intro a; fin_cases a <;> simp)

theorem ld5 (x0 : Vec Ideal S1x16x1024x128 .f32) (p : Fin 1024) (c : Fin 128) :
    View.ld x0 r2_6 (ix4 0 0 p c) = x0 (ix4 0 5 p c) :=
  View.ld_unit_apply_of _ _ _ _ _ _ (by intro a; fin_cases a <;> simp)

theorem ld6 (x0 : Vec Ideal S1x16x1024x128 .f32) (p : Fin 1024) (c : Fin 128) :
    View.ld x0 r2_7 (ix4 0 0 p c) = x0 (ix4 0 6 p c) :=
  View.ld_unit_apply_of _ _ _ _ _ _ (by intro a; fin_cases a <;> simp)

theorem ld7 (x0 : Vec Ideal S1x16x1024x128 .f32) (p : Fin 1024) (c : Fin 128) :
    View.ld x0 r2_8 (ix4 0 0 p c) = x0 (ix4 0 7 p c) :=
  View.ld_unit_apply_of _ _ _ _ _ _ (by intro a; fin_cases a <;> simp)

theorem ld8 (x0 : Vec Ideal S1x16x1024x128 .f32) (p : Fin 1024) (c : Fin 128) :
    View.ld x0 r2_9 (ix4 0 0 p c) = x0 (ix4 0 8 p c) :=
  View.ld_unit_apply_of _ _ _ _ _ _ (by intro a; fin_cases a <;> simp)

theorem ld9 (x0 : Vec Ideal S1x16x1024x128 .f32) (p : Fin 1024) (c : Fin 128) :
    View.ld x0 r2_10 (ix4 0 0 p c) = x0 (ix4 0 9 p c) :=
  View.ld_unit_apply_of _ _ _ _ _ _ (by intro a; fin_cases a <;> simp)

theorem ld10 (x0 : Vec Ideal S1x16x1024x128 .f32) (p : Fin 1024) (c : Fin 128) :
    View.ld x0 r2_11 (ix4 0 0 p c) = x0 (ix4 0 10 p c) :=
  View.ld_unit_apply_of _ _ _ _ _ _ (by intro a; fin_cases a <;> simp)

theorem ld11 (x0 : Vec Ideal S1x16x1024x128 .f32) (p : Fin 1024) (c : Fin 128) :
    View.ld x0 r2_12 (ix4 0 0 p c) = x0 (ix4 0 11 p c) :=
  View.ld_unit_apply_of _ _ _ _ _ _ (by intro a; fin_cases a <;> simp)

theorem ld12 (x0 : Vec Ideal S1x16x1024x128 .f32) (p : Fin 1024) (c : Fin 128) :
    View.ld x0 r2_13 (ix4 0 0 p c) = x0 (ix4 0 12 p c) :=
  View.ld_unit_apply_of _ _ _ _ _ _ (by intro a; fin_cases a <;> simp)

theorem ld13 (x0 : Vec Ideal S1x16x1024x128 .f32) (p : Fin 1024) (c : Fin 128) :
    View.ld x0 r2_14 (ix4 0 0 p c) = x0 (ix4 0 13 p c) :=
  View.ld_unit_apply_of _ _ _ _ _ _ (by intro a; fin_cases a <;> simp)

theorem ld14 (x0 : Vec Ideal S1x16x1024x128 .f32) (p : Fin 1024) (c : Fin 128) :
    View.ld x0 r2_15 (ix4 0 0 p c) = x0 (ix4 0 14 p c) :=
  View.ld_unit_apply_of _ _ _ _ _ _ (by intro a; fin_cases a <;> simp)

theorem ld15 (x0 : Vec Ideal S1x16x1024x128 .f32) (p : Fin 1024) (c : Fin 128) :
    View.ld x0 r2_16 (ix4 0 0 p c) = x0 (ix4 0 15 p c) :=
  View.ld_unit_apply_of _ _ _ _ _ _ (by intro a; fin_cases a <;> simp)

theorem ldm (x1 : Vec Ideal S16x128 .f32) (t : Fin 16) (c : Fin 128) :
    View.ld x1 r2_0 (ix2 t c) = x1 (ix2 t c) :=
  View.ld_unit_apply_of _ _ _ _ _ _ (by intro a; fin_cases a <;> simp)

variable (x0 : Vec Ideal S1x16x1024x128 .f32) (x1 : Vec Ideal S16x128 .f32) (x2 x3 : Vec Ideal S1x2x3x3 .f32)

theorem pay113_at (t : Fin 16) (c : Fin 128) : k2_pay113 (F := Ideal) x0 x1 x2 x3 (ix2 t c) = x1 (ix2 t c) := by
  unfold k2_pay113 k2_pay2
  pointwise []

/-- A sum of sixteen terms, written out from the left. -/
theorem chain_sum (f : Fin 16 → EReal) :
    f 0 + f 1 + f 2 + f 3 + f 4 + f 5 + f 6 + f 7 + f 8 + f 9 + f 10 + f 11 + f 12 + f 13 + f 14
      + f 15 = ∑ t, f t := by
  simp only [Fin.sum_univ_castSucc, Finset.univ_eq_empty, Finset.sum_empty, zero_add]
  rfl

/-- The largest of sixteen terms, found from the left. -/
theorem chain_max (b : EReal) (f : Fin 16 → EReal) :
    max (max (max (max (max (max (max (max (max (max (max (max (max (max (max (max b (f 0)) (f 1))
      (f 2)) (f 3)) (f 4)) (f 5)) (f 6)) (f 7)) (f 8)) (f 9)) (f 10)) (f 11)) (f 12)) (f 13))
      (f 14)) (f 15) = Finset.fold max b f Finset.univ := by
  have e : (Finset.univ : Finset (Fin 16))
      = {15, 14, 13, 12, 11, 10, 9, 8, 7, 6, 5, 4, 3, 2, 1, 0} := by decide
  rw [e]
  simp only [Finset.fold_insert_idem, Finset.fold_singleton]
  simp only [max_comm, max_left_comm, max_assoc]

/-- The sum of a table over frames and lanes. -/
def total (f : Fin 16 → Fin 128 → EReal) : EReal := ∑ c, ∑ t, f t c

/-- The largest entry of a table over frames and lanes. -/
def peak (f : Fin 16 → Fin 128 → EReal) : EReal :=
  Finset.fold max (Ideal.ofBits .f32 4286578688#32)
    (fun c => Finset.fold max (Ideal.ofBits .f32 4286578688#32) (fun t => f t c) Finset.univ)
    Finset.univ

theorem pay121_at (p : Fin 1024) :
    k2_pay121 (F := Ideal) x0 x1 x2 x3 (ix2 p 0) = total (fun t c => x0 (ix4 0 t p c) * x1 (ix2 t c)) * Ideal.ofBits .f32 981467136#32 := by
  unfold k2_pay121 k2_pay118 k2_pay117 k2_pay37 k2_pay116 k2_pay36 k2_pay115 k2_pay25 k2_pay24
    k2_pay10 k2_pay9 k2_pay8 k2_pay6 k2_pay5 k2_pay4 k2_pay3 k2_pay2 k2_pay20 k2_pay19
    k2_pay18 k2_pay17 k2_pay16 k2_pay15 k2_pay14 k2_pay32 k2_pay31 k2_pay30 k2_pay29 k2_pay28
    k2_pay27 k2_pay26 k2_pay45 k2_pay44 k2_pay43 k2_pay42 k2_pay41 k2_pay40 k2_pay39 k2_pay38
    k2_pay57 k2_pay53 k2_pay52 k2_pay51 k2_pay50 k2_pay49
  have h1 := pay113_at x0 x1 x2 x3
  generalize k2_pay113 (F := Ideal) x0 x1 x2 x3 = z at h1 ⊢
  pointwise []
  simp only [h1, ldm, ld0, ld1, ld2, ld3, ld4, ld5, ld6, ld7, ld8, ld9, ld10, ld11, ld12, ld13, ld14, ld15]
  simp only [total, ← chain_sum]

theorem pay119_at (p : Fin 1024) :
    k2_pay119 (F := Ideal) x0 x1 x2 x3 (ix2 p 0) = peak (fun t c => x0 (ix4 0 t p c) * x1 (ix2 t c)) := by
  unfold k2_pay119 k2_pay117 k2_pay37 k2_pay116 k2_pay36 k2_pay115 k2_pay25 k2_pay24 k2_pay12
    k2_pay9 k2_pay8 k2_pay6 k2_pay5 k2_pay4 k2_pay3 k2_pay2 k2_pay22 k2_pay19 k2_pay18
    k2_pay17 k2_pay16 k2_pay15 k2_pay14 k2_pay34 k2_pay31 k2_pay30 k2_pay29 k2_pay28 k2_pay27
    k2_pay26 k2_pay47 k2_pay44 k2_pay43 k2_pay42 k2_pay41 k2_pay40 k2_pay39 k2_pay38 k2_pay55
    k2_pay52 k2_pay51 k2_pay50 k2_pay49
  have h1 := pay113_at x0 x1 x2 x3
  generalize k2_pay113 (F := Ideal) x0 x1 x2 x3 = z at h1 ⊢
  pointwise []
  simp only [h1, ldm, ld0, ld1, ld2, ld3, ld4, ld5, ld6, ld7, ld8, ld9, ld10, ld11, ld12, ld13, ld14, ld15]
  exact congrArg (fun g => Finset.fold max (Ideal.ofBits .f32 4286578688#32) g Finset.univ)
    (funext fun c => chain_max _ fun t => x0 (ix4 0 t p c) * x1 (ix2 t c))

theorem pay120_at (p : Fin 1024) :
    k2_pay120 (F := Ideal) x0 x1 x2 x3 (ix2 p 0) = peak (fun t c => x0 (ix4 0 t p c) - x0 (ix4 0 t p c) * x1 (ix2 t c)) := by
  unfold k2_pay120 k2_pay117 k2_pay37 k2_pay116 k2_pay36 k2_pay115 k2_pay25 k2_pay114 k2_pay24
    k2_pay13 k2_pay9 k2_pay8 k2_pay7 k2_pay6 k2_pay5 k2_pay4 k2_pay2 k2_pay3 k2_pay23 k2_pay19
    k2_pay18 k2_pay17 k2_pay16 k2_pay15 k2_pay14 k2_pay35 k2_pay31 k2_pay30 k2_pay29 k2_pay28
    k2_pay27 k2_pay26 k2_pay48 k2_pay44 k2_pay43 k2_pay42 k2_pay41 k2_pay40 k2_pay39 k2_pay38
    k2_pay56 k2_pay52 k2_pay51 k2_pay50 k2_pay49
  have h1 := pay113_at x0 x1 x2 x3
  generalize k2_pay113 (F := Ideal) x0 x1 x2 x3 = z at h1 ⊢
  pointwise []
  simp only [h1, ldm, ld0, ld1, ld2, ld3, ld4, ld5, ld6, ld7, ld8, ld9, ld10, ld11, ld12, ld13, ld14, ld15]
  exact congrArg (fun g => Finset.fold max (Ideal.ofBits .f32 4286578688#32) g Finset.univ)
    (funext fun c => chain_max _ fun t => x0 (ix4 0 t p c) - x0 (ix4 0 t p c) * x1 (ix2 t c))

theorem pay128_at (p : Fin 1024) :
    k2_pay128 (F := Ideal) x0 x1 x2 x3 (ix2 p 0) = (total (fun t c => x0 (ix4 0 t p c))
      - total (fun t c => x0 (ix4 0 t p c) * x1 (ix2 t c))) * Ideal.ofBits .f32 981467136#32 := by
  unfold k2_pay128 k2_pay114 k2_pay11 k2_pay21 k2_pay33 k2_pay46 k2_pay54 k2_pay118 k2_pay117
    k2_pay37 k2_pay116 k2_pay36 k2_pay115 k2_pay25 k2_pay24 k2_pay10 k2_pay9 k2_pay8 k2_pay6
    k2_pay5 k2_pay4 k2_pay3 k2_pay2 k2_pay20 k2_pay19 k2_pay18 k2_pay17 k2_pay16 k2_pay15
    k2_pay14 k2_pay32 k2_pay31 k2_pay30 k2_pay29 k2_pay28 k2_pay27 k2_pay26 k2_pay45 k2_pay44
    k2_pay43 k2_pay42 k2_pay41 k2_pay40 k2_pay39 k2_pay38 k2_pay53 k2_pay52 k2_pay51 k2_pay50
    k2_pay49 k2_pay78
  have h1 := pay113_at x0 x1 x2 x3
  generalize k2_pay113 (F := Ideal) x0 x1 x2 x3 = z at h1 ⊢
  pointwise []
  simp only [h1, ldm, ld0, ld1, ld2, ld3, ld4, ld5, ld6, ld7, ld8, ld9, ld10, ld11, ld12, ld13, ld14, ld15]
  simp only [total, ← chain_sum]

end Cert.KernelIdeal.Fused

end
-- ==== Proof.Conv.lean ====
/-
  The two convolutions of the idealized kernel's third region, each over a column of 1024 pixels
  standing for a 32 × 32 picture, and the logistic function that closes them.
-/
module

public import proofs.«01_k».proof.Proof.Fused
public import proofs.«01_k».proof.Proof.Rank

@[expose] public section

set_option maxRecDepth 16384

noncomputable section

namespace Cert.KernelIdeal.Fused

open Idealize.ShloMosaic Idealize.ShloMosaic.TcCoe Cert.KernelIdeal Cert.KernelIdeal.Gen

/-- The picture `f` moved by the tap `(ky, kx)` of a 3 × 3 window, zero outside its 32 × 32 frame. -/
def shifted (f : Fin 1024 → EReal) (ky kx : ℕ) (p : Fin 1024) : EReal :=
  if h : 1 ≤ p.val / 32 + ky ∧ p.val / 32 + ky ≤ 32 ∧ 1 ≤ p.val % 32 + kx ∧ p.val % 32 + kx ≤ 32 then
    f ⟨p.val + 32 * ky + kx - 33, by omega⟩
  else 0

/-- One tap of the convolution of two pictures. -/
def tap (w : Vec Ideal S1x2x3x3 .f32) (f g : Fin 1024 → EReal) (ky kx : Fin 3) (p : Fin 1024) : EReal :=
  w (ix4 0 0 ky kx) * shifted f ky kx p + w (ix4 0 1 ky kx) * shifted g ky kx p

/-- The 3 × 3 convolution of two pictures, its taps added row by row. -/
def conv (w : Vec Ideal S1x2x3x3 .f32) (f g : Fin 1024 → EReal) (p : Fin 1024) : EReal :=
  tap w f g 0 0 p + tap w f g 0 1 p + tap w f g 0 2 p + tap w f g 1 0 p + tap w f g 1 1 p
    + tap w f g 1 2 p + tap w f g 2 0 p + tap w f g 2 1 p + tap w f g 2 2 p

theorem shifted_down (f : Fin 1024 → EReal) (ky kx d : ℕ) (p : Fin 1024) (hd : d + 32 * ky + kx = 33)
    (hx : 1 ≤ p.val % 32 + kx ∧ p.val % 32 + kx ≤ 32) :
    shifted f ky kx p = if h : p.val < d then 0 else f ⟨p.val - d, by omega⟩ := by
  have := p.isLt
  unfold shifted
  split_ifs with h1 h2 h2
  · omega
  · exact congrArg f (Fin.ext (by simp only; omega))
  · rfl
  · omega

theorem shifted_up (f : Fin 1024 → EReal) (ky kx d e : ℕ) (p : Fin 1024) (hd : d + 33 = 32 * ky + kx)
    (he : e + d = 1024) (hk : ky ≤ 2) (hx : 1 ≤ p.val % 32 + kx ∧ p.val % 32 + kx ≤ 32) :
    shifted f ky kx p = if h : p.val < e then f ⟨d + p.val, by omega⟩ else 0 := by
  have := p.isLt
  unfold shifted
  split_ifs with h1 h2 h2
  · exact congrArg f (Fin.ext (by simp only; omega))
  · omega
  · omega
  · rfl

theorem shifted_out (f : Fin 1024 → EReal) (ky kx : ℕ) (p : Fin 1024)
    (hx : ¬ (1 ≤ p.val % 32 + kx ∧ p.val % 32 + kx ≤ 32)) : shifted f ky kx p = 0 := by
  unfold shifted
  rw [dif_neg (by omega)]

theorem shifted_mid (f : Fin 1024 → EReal) (p : Fin 1024) : shifted f 1 1 p = f p := by
  rw [shifted_down f 1 1 0 p (by omega) (by omega), dif_neg (by omega)]
  exact congrArg f (Fin.ext (by simp only; omega))

/-- A tap computed without its edge and then masked is the tap. -/
theorem tap_mask (w : Vec Ideal S1x2x3x3 .f32) (f g : Fin 1024 → EReal) (ky kx : Fin 3) (p : Fin 1024)
    (a b : EReal) (n : ℕ) (h0 : p.val % 32 = n → shifted f ky kx p = 0 ∧ shifted g ky kx p = 0)
    (h1 : p.val % 32 ≠ n → shifted f ky kx p = a ∧ shifted g ky kx p = b) :
    (w (ix4 0 0 ky kx) * a + w (ix4 0 1 ky kx) * b) * (if p.val % 32 = n then (0 : EReal) else 1)
      = tap w f g ky kx p := by
  unfold tap
  by_cases h : p.val % 32 = n
  · rw [if_pos h, (h0 h).1, (h0 h).2]; simp
  · rw [if_neg h, (h1 h).1, (h1 h).2, mul_one]

variable (x0 : Vec Ideal S1x16x1024x128 .f32) (x1 : Vec Ideal S16x128 .f32)
  (x2 x3 : Vec Ideal S1x2x3x3 .f32)

theorem pay125_at (p : Fin 1024) :
    k2_pay125 (F := Ideal) x0 x1 x2 x3 (ix2 p 0) = if p.val % 32 = 0 then (0 : EReal) else 1 := by
  unfold k2_pay125 k2_pay124 k2_pay60 k2_pay123 k2_pay59 k2_pay122 k2_pay58 k2_pay62 k2_pay61
  pointwise []
  refine (congrArg (fun b : BitVec 1 => FloatOps.sitofp (F := Ideal) .f32 (BitVec.setWidth 32 b))
    (?_ : _ = BitVec.ofBool (!decide (p.val % 32 = 0)))).trans ((Rank.sitofp_bit _).trans (by simp))
  revert p
  decide +kernel

theorem pay126_at (p : Fin 1024) :
    k2_pay126 (F := Ideal) x0 x1 x2 x3 (ix2 p 0) = if p.val % 32 = 31 then (0 : EReal) else 1 := by
  unfold k2_pay126 k2_pay124 k2_pay60 k2_pay123 k2_pay59 k2_pay122 k2_pay58 k2_pay63 k2_pay61
  pointwise []
  refine (congrArg (fun b : BitVec 1 => FloatOps.sitofp (F := Ideal) .f32 (BitVec.setWidth 32 b))
    (?_ : _ = BitVec.ofBool (!decide (p.val % 32 = 31)))).trans ((Rank.sitofp_bit _).trans (by simp))
  revert p
  decide +kernel

theorem pay129_at (p : Fin 1024) :
    k2_pay129 (F := Ideal) x0 x1 x2 x3 (ix2 p 0) = if p.val % 32 = 0 then (0 : EReal) else 1 := by
  unfold k2_pay129 k2_pay80 k2_pay79
  pointwise []
  refine (congrArg (fun b : BitVec 1 => FloatOps.sitofp (F := Ideal) .f32 (BitVec.setWidth 32 b))
    (?_ : _ = BitVec.ofBool (!decide (p.val % 32 = 0)))).trans ((Rank.sitofp_bit _).trans (by simp))
  revert p
  decide +kernel

theorem pay130_at (p : Fin 1024) :
    k2_pay130 (F := Ideal) x0 x1 x2 x3 (ix2 p 0) = if p.val % 32 = 31 then (0 : EReal) else 1 := by
  unfold k2_pay130 k2_pay81 k2_pay79
  pointwise []
  refine (congrArg (fun b : BitVec 1 => FloatOps.sitofp (F := Ideal) .f32 (BitVec.setWidth 32 b))
    (?_ : _ = BitVec.ofBool (!decide (p.val % 32 = 31)))).trans ((Rank.sitofp_bit _).trans (by simp))
  revert p
  decide +kernel

theorem tap00 (w : Vec Ideal S1x2x3x3 .f32) (f g : Fin 1024 → EReal) (p : Fin 1024) :
    tap w f g 0 0 p = (w (ix4 0 0 0 0) * (if h : p.val < 33 then 0 else f ⟨p.val - 33, by omega⟩)
      + w (ix4 0 1 0 0) * (if h : p.val < 33 then 0 else g ⟨p.val - 33, by omega⟩))
      * (if p.val % 32 = 0 then (0 : EReal) else 1) := by
  refine (tap_mask w f g 0 0 p _ _ 0 (fun h => ⟨?_, ?_⟩) (fun h => ⟨?_, ?_⟩)).symm
  · exact shifted_out f 0 0 p (by omega)
  · exact shifted_out g 0 0 p (by omega)
  · exact shifted_down f 0 0 33 p (by omega) (by omega)
  · exact shifted_down g 0 0 33 p (by omega) (by omega)

theorem tap01 (w : Vec Ideal S1x2x3x3 .f32) (f g : Fin 1024 → EReal) (p : Fin 1024) :
    tap w f g 0 1 p = (w (ix4 0 0 0 1) * (if h : p.val < 32 then 0 else f ⟨p.val - 32, by omega⟩)
      + w (ix4 0 1 0 1) * (if h : p.val < 32 then 0 else g ⟨p.val - 32, by omega⟩)) := by
  exact congrArg₂ (· + ·) (congrArg (w (ix4 0 0 0 1) * ·) (shifted_down f 0 1 32 p (by omega) (by omega)))
    (congrArg (w (ix4 0 1 0 1) * ·) (shifted_down g 0 1 32 p (by omega) (by omega)))

theorem tap02 (w : Vec Ideal S1x2x3x3 .f32) (f g : Fin 1024 → EReal) (p : Fin 1024) :
    tap w f g 0 2 p = (w (ix4 0 0 0 2) * (if h : p.val < 31 then 0 else f ⟨p.val - 31, by omega⟩)
      + w (ix4 0 1 0 2) * (if h : p.val < 31 then 0 else g ⟨p.val - 31, by omega⟩))
      * (if p.val % 32 = 31 then (0 : EReal) else 1) := by
  refine (tap_mask w f g 0 2 p _ _ 31 (fun h => ⟨?_, ?_⟩) (fun h => ⟨?_, ?_⟩)).symm
  · exact shifted_out f 0 2 p (by omega)
  · exact shifted_out g 0 2 p (by omega)
  · exact shifted_down f 0 2 31 p (by omega) (by omega)
  · exact shifted_down g 0 2 31 p (by omega) (by omega)

theorem tap10 (w : Vec Ideal S1x2x3x3 .f32) (f g : Fin 1024 → EReal) (p : Fin 1024) :
    tap w f g 1 0 p = (w (ix4 0 0 1 0) * (if h : p.val < 1 then 0 else f ⟨p.val - 1, by omega⟩)
      + w (ix4 0 1 1 0) * (if h : p.val < 1 then 0 else g ⟨p.val - 1, by omega⟩))
      * (if p.val % 32 = 0 then (0 : EReal) else 1) := by
  refine (tap_mask w f g 1 0 p _ _ 0 (fun h => ⟨?_, ?_⟩) (fun h => ⟨?_, ?_⟩)).symm
  · exact shifted_out f 1 0 p (by omega)
  · exact shifted_out g 1 0 p (by omega)
  · exact shifted_down f 1 0 1 p (by omega) (by omega)
  · exact shifted_down g 1 0 1 p (by omega) (by omega)

theorem tap11 (w : Vec Ideal S1x2x3x3 .f32) (f g : Fin 1024 → EReal) (p : Fin 1024) :
    tap w f g 1 1 p = (w (ix4 0 0 1 1) * f p
      + w (ix4 0 1 1 1) * g p) := by
  exact congrArg₂ (· + ·) (congrArg (w (ix4 0 0 1 1) * ·) (shifted_mid f p))
    (congrArg (w (ix4 0 1 1 1) * ·) (shifted_mid g p))

theorem tap12 (w : Vec Ideal S1x2x3x3 .f32) (f g : Fin 1024 → EReal) (p : Fin 1024) :
    tap w f g 1 2 p = (w (ix4 0 0 1 2) * (if h : p.val < 1023 then f ⟨1 + p.val, by omega⟩ else 0)
      + w (ix4 0 1 1 2) * (if h : p.val < 1023 then g ⟨1 + p.val, by omega⟩ else 0))
      * (if p.val % 32 = 31 then (0 : EReal) else 1) := by
  refine (tap_mask w f g 1 2 p _ _ 31 (fun h => ⟨?_, ?_⟩) (fun h => ⟨?_, ?_⟩)).symm
  · exact shifted_out f 1 2 p (by omega)
  · exact shifted_out g 1 2 p (by omega)
  · exact shifted_up f 1 2 1 1023 p (by omega) (by omega) (by omega) (by omega)
  · exact shifted_up g 1 2 1 1023 p (by omega) (by omega) (by omega) (by omega)

theorem tap20 (w : Vec Ideal S1x2x3x3 .f32) (f g : Fin 1024 → EReal) (p : Fin 1024) :
    tap w f g 2 0 p = (w (ix4 0 0 2 0) * (if h : p.val < 993 then f ⟨31 + p.val, by omega⟩ else 0)
      + w (ix4 0 1 2 0) * (if h : p.val < 993 then g ⟨31 + p.val, by omega⟩ else 0))
      * (if p.val % 32 = 0 then (0 : EReal) else 1) := by
  refine (tap_mask w f g 2 0 p _ _ 0 (fun h => ⟨?_, ?_⟩) (fun h => ⟨?_, ?_⟩)).symm
  · exact shifted_out f 2 0 p (by omega)
  · exact shifted_out g 2 0 p (by omega)
  · exact shifted_up f 2 0 31 993 p (by omega) (by omega) (by omega) (by omega)
  · exact shifted_up g 2 0 31 993 p (by omega) (by omega) (by omega) (by omega)

theorem tap21 (w : Vec Ideal S1x2x3x3 .f32) (f g : Fin 1024 → EReal) (p : Fin 1024) :
    tap w f g 2 1 p = (w (ix4 0 0 2 1) * (if h : p.val < 992 then f ⟨32 + p.val, by omega⟩ else 0)
      + w (ix4 0 1 2 1) * (if h : p.val < 992 then g ⟨32 + p.val, by omega⟩ else 0)) := by
  exact congrArg₂ (· + ·) (congrArg (w (ix4 0 0 2 1) * ·) (shifted_up f 2 1 32 992 p (by omega) (by omega) (by omega) (by omega)))
    (congrArg (w (ix4 0 1 2 1) * ·) (shifted_up g 2 1 32 992 p (by omega) (by omega) (by omega) (by omega)))

theorem tap22 (w : Vec Ideal S1x2x3x3 .f32) (f g : Fin 1024 → EReal) (p : Fin 1024) :
    tap w f g 2 2 p = (w (ix4 0 0 2 2) * (if h : p.val < 991 then f ⟨33 + p.val, by omega⟩ else 0)
      + w (ix4 0 1 2 2) * (if h : p.val < 991 then g ⟨33 + p.val, by omega⟩ else 0))
      * (if p.val % 32 = 31 then (0 : EReal) else 1) := by
  refine (tap_mask w f g 2 2 p _ _ 31 (fun h => ⟨?_, ?_⟩) (fun h => ⟨?_, ?_⟩)).symm
  · exact shifted_out f 2 2 p (by omega)
  · exact shifted_out g 2 2 p (by omega)
  · exact shifted_up f 2 2 33 991 p (by omega) (by omega) (by omega) (by omega)
  · exact shifted_up g 2 2 33 991 p (by omega) (by omega) (by omega) (by omega)

/-- The logistic function. -/
def squash (a : EReal) : EReal := Ideal.div 1 (1 + Ideal.exp (0 - a))

theorem pay127_at (p : Fin 1024) :
    k2_pay127 (F := Ideal) x0 x1 x2 x3 (ix2 p 0)
      = squash (conv x2 (fun q => k2_pay121 (F := Ideal) x0 x1 x2 x3 (ix2 q 0))
          (fun q => k2_pay119 (F := Ideal) x0 x1 x2 x3 (ix2 q 0)) p) := by
  have hl := pay125_at x0 x1 x2 x3 p
  have hr := pay126_at x0 x1 x2 x3 p
  unfold k2_pay127 k2_pay76 k2_pay74 k2_pay73 k2_pay72 k2_pay70 k2_pay69 k2_pay68 k2_pay67 k2_pay65
    k2_pay64 k2_pay66 k2_pay71 k2_pay75 k2_pay77
  rw [← k2_pay125]
  generalize k2_pay119 (F := Ideal) x0 x1 x2 x3 = M
  generalize k2_pay121 (F := Ideal) x0 x1 x2 x3 = A
  generalize k2_pay125 (F := Ideal) x0 x1 x2 x3 = L at hl ⊢
  generalize k2_pay126 (F := Ideal) x0 x1 x2 x3 = R at hr ⊢
  pointwise []
  rw [hl, hr]
  rw [squash, conv, tap00, tap01, tap02, tap10, tap11, tap12, tap20, tap21, tap22]

theorem pay131_at (p : Fin 1024) :
    k2_pay131 (F := Ideal) x0 x1 x2 x3 (ix2 p 0)
      = 1 + Ideal.exp (0 - conv x3 (fun q => k2_pay128 (F := Ideal) x0 x1 x2 x3 (ix2 q 0))
          (fun q => k2_pay120 (F := Ideal) x0 x1 x2 x3 (ix2 q 0)) p) := by
  have hl := pay129_at x0 x1 x2 x3 p
  have hr := pay130_at x0 x1 x2 x3 p
  unfold k2_pay131 k2_pay86 k2_pay84 k2_pay82 k2_pay83 k2_pay85 k2_pay87 k2_pay88
  generalize k2_pay120 (F := Ideal) x0 x1 x2 x3 = M
  generalize k2_pay128 (F := Ideal) x0 x1 x2 x3 = A
  generalize k2_pay129 (F := Ideal) x0 x1 x2 x3 = L at hl ⊢
  generalize k2_pay130 (F := Ideal) x0 x1 x2 x3 = R at hr ⊢
  pointwise []
  rw [hl, hr]
  rw [conv, tap00, tap01, tap02, tap10, tap11, tap12, tap20, tap21, tap22]

end Cert.KernelIdeal.Fused

end
-- ==== Proof.Blend.lean ====
/-
  What the third region of the idealized kernel leaves: every entry of the batch weighed by the
  logistic values of its pixel, mixed by the mask of its frame and lane.
-/
module

public import proofs.«01_k».proof.Proof.Conv

@[expose] public section

set_option maxRecDepth 16384

noncomputable section

namespace Cert.KernelIdeal.Fused

open Idealize.ShloMosaic Idealize.ShloMosaic.TcCoe Cert.KernelIdeal Cert.KernelIdeal.Gen

/-- The weight of the marked part at pixel `p`. -/
def weightIn (x : Fin 16 → Fin 1024 → Fin 128 → EReal) (m : Fin 16 → Fin 128 → EReal)
    (w : Vec Ideal S1x2x3x3 .f32) (p : Fin 1024) : EReal :=
  squash (conv w (fun q => total (fun t c => x t q c * m t c) * Ideal.ofBits .f32 981467136#32)
    (fun q => peak fun t c => x t q c * m t c) p)

/-- The weight of the part left unmarked at pixel `p`. -/
def weightOut (x : Fin 16 → Fin 1024 → Fin 128 → EReal) (m : Fin 16 → Fin 128 → EReal)
    (w : Vec Ideal S1x2x3x3 .f32) (p : Fin 1024) : EReal :=
  squash (conv w (fun q => (total (fun t c => x t q c) - total (fun t c => x t q c * m t c))
      * Ideal.ofBits .f32 981467136#32)
    (fun q => peak fun t c => x t q c - x t q c * m t c) p)

/-- One entry of the third region's result. -/
def blend (x : Fin 16 → Fin 1024 → Fin 128 → EReal) (m : Fin 16 → Fin 128 → EReal)
    (w w' : Vec Ideal S1x2x3x3 .f32) (t : Fin 16) (p : Fin 1024) (c : Fin 128) : EReal :=
  x t p c * (weightOut x m w' p + (weightIn x m w p - weightOut x m w' p) * m t c)

variable (x0 : Vec Ideal S1x16x1024x128 .f32) (x1 : Vec Ideal S16x128 .f32)
  (x2 x3 : Vec Ideal S1x2x3x3 .f32)

theorem weightIn_at (p : Fin 1024) : k2_pay127 (F := Ideal) x0 x1 x2 x3 (ix2 p 0)
    = weightIn (fun t p c => x0 (ix4 0 t p c)) (fun t c => x1 (ix2 t c)) x2 p := by
  rw [pay127_at, weightIn]
  simp only [pay121_at, pay119_at]

theorem weightOut_at (p : Fin 1024) : k2_pay132 (F := Ideal) x0 x1 x2 x3 (ix2 p 0)
    = weightOut (fun t p c => x0 (ix4 0 t p c)) (fun t c => x1 (ix2 t c)) x3 p := by
  unfold k2_pay132 k2_pay89
  have h := pay131_at x0 x1 x2 x3 p
  generalize k2_pay131 (F := Ideal) x0 x1 x2 x3 = z at h ⊢
  pointwise []
  rw [h, weightOut, squash]
  simp only [pay128_at, pay120_at]

theorem weightDiff_at (p : Fin 1024) : k2_pay133 (F := Ideal) x0 x1 x2 x3 (ix2 p 0)
    = weightIn (fun t p c => x0 (ix4 0 t p c)) (fun t c => x1 (ix2 t c)) x2 p
      - weightOut (fun t p c => x0 (ix4 0 t p c)) (fun t c => x1 (ix2 t c)) x3 p := by
  unfold k2_pay133 k2_pay90
  have h := weightIn_at x0 x1 x2 x3 p
  have h' : k2_pay89 (F := Ideal) (k2_pay131 x0 x1 x2 x3) (Scalar.ofBits .f32 0x3F800000#32) (ix2 p 0) = _ := weightOut_at x0 x1 x2 x3 p
  generalize k2_pay89 (F := Ideal) (k2_pay131 x0 x1 x2 x3) (Scalar.ofBits .f32 0x3F800000#32) = z at h' ⊢
  generalize k2_pay127 (F := Ideal) x0 x1 x2 x3 = z' at h ⊢
  pointwise []
  rw [h, h']

theorem block_idx (x : S1x1x1024x128.Idx) : ∃ (p : Fin 1024) (c : Fin 128), x = ix4 0 0 p c := by
  refine ⟨x 2, x 3, ?_⟩
  funext a
  fin_cases a
  · exact Fin.ext (by have := (x 0).isLt; simp at this ⊢)
  · exact Fin.ext (by have := (x 1).isLt; simp at this ⊢)
  · rfl
  · rfl

/-- A stored frame, once its payload is the batch's frame weighed by the mixed weights. -/
theorem piece (t : Fin 16) (y : S1x16x1024x128.Idx) (x : S1x1x1024x128.Idx)
    (v : FVec Ideal S1x1x1024x128 .f32) (z : FVec Ideal S16x128 .f32) (s d : FVec Ideal S1024x1 .f32)
    (u : FVec Ideal S1x1x1024x128 .f32)
    (hz : ∀ (t : Fin 16) (c : Fin 128), z (ix2 t c) = x1 (ix2 t c))
    (hs : ∀ p, s (ix2 p 0) = weightOut (fun t p c => x0 (ix4 0 t p c)) (fun t c => x1 (ix2 t c)) x3 p)
    (hd : ∀ p, d (ix2 p 0) = weightIn (fun t p c => x0 (ix4 0 t p c)) (fun t c => x1 (ix2 t c)) x2 p
      - weightOut (fun t p c => x0 (ix4 0 t p c)) (fun t c => x1 (ix2 t c)) x3 p)
    (hu : ∀ p c, u (ix4 0 0 p c) = x0 (ix4 0 t p c))
    (hv : ∀ p c, v (ix4 0 0 p c) = u (ix4 0 0 p c) * (s (ix2 p 0) + d (ix2 p 0) * z (ix2 t c)))
    (k : ℕ) (hk : t.val = k) (hl : (x 1 : ℕ) < 1) (h1 : (y 1 : ℕ) = k + (x 1 : ℕ)) (h2 : (y 2 : ℕ) = x 2) (h3 : (y 3 : ℕ) = x 3) :
    v x = blend (fun t p c => x0 (ix4 0 t p c)) (fun t c => x1 (ix2 t c)) x2 x3 (y 1) (y 2) (y 3) := by
  obtain ⟨p, c, rfl⟩ := block_idx x
  have e1 : y 1 = t := Fin.ext (by omega)
  have e2 : y 2 = p := Fin.ext h2
  have e3 : y 3 = c := Fin.ext h3
  refine (hv p c).trans ?_
  rw [hu, hs, hd, hz, e1, e2, e3]
  rfl

/-- The entry at a frame, pixel and lane of the third region's output block. -/
theorem out_at (y : S1x16x1024x128.Idx) :
    out2_4 (F := Ideal) x0 x1 x2 x3 y
      = blend (fun t p c => x0 (ix4 0 t p c)) (fun t c => x1 (ix2 t c)) x2 x3 (y 1) (y 2) (y 3) := by
  have hm := pay113_at x0 x1 x2 x3
  have ho := weightOut_at x0 x1 x2 x3
  have hd := weightDiff_at x0 x1 x2 x3
  unfold out2_4
  canon_tiles x h
  · refine piece x0 x1 x2 x3 15 y x _ _ _ _ (View.ld (Val := Elt Ideal) (e' := .f32) x0 r2_16) hm ho hd (ld15 x0) (fun p c => ?_)
      15 rfl x1_lt h1 h2 h3
    unfold k2_pay1 k2_pay112
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 14 y x _ _ _ _ (View.ld (Val := Elt Ideal) (e' := .f32) x0 r2_15) hm ho hd (ld14 x0) (fun p c => ?_)
      14 rfl x1_lt h1 h2 h3
    unfold k2_pay111
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 13 y x _ _ _ _ (View.ld (Val := Elt Ideal) (e' := .f32) x0 r2_14) hm ho hd (ld13 x0) (fun p c => ?_)
      13 rfl x1_lt h1 h2 h3
    unfold k2_pay110
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 12 y x _ _ _ _ (View.ld (Val := Elt Ideal) (e' := .f32) x0 r2_13) hm ho hd (ld12 x0) (fun p c => ?_)
      12 rfl x1_lt h1 h2 h3
    unfold k2_pay109 k2_pay108
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 11 y x _ _ _ _ (View.ld (Val := Elt Ideal) (e' := .f32) x0 r2_12) hm ho hd (ld11 x0) (fun p c => ?_)
      11 rfl x1_lt h1 h2 h3
    unfold k2_pay107
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 10 y x _ _ _ _ (View.ld (Val := Elt Ideal) (e' := .f32) x0 r2_11) hm ho hd (ld10 x0) (fun p c => ?_)
      10 rfl x1_lt h1 h2 h3
    unfold k2_pay106 k2_pay104 k2_pay105
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 9 y x _ _ _ _ (View.ld (Val := Elt Ideal) (e' := .f32) x0 r2_10) hm ho hd (ld9 x0) (fun p c => ?_)
      9 rfl x1_lt h1 h2 h3
    unfold k2_pay103
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 8 y x _ _ _ _ (View.ld (Val := Elt Ideal) (e' := .f32) x0 r2_9) hm ho hd (ld8 x0) (fun p c => ?_)
      8 rfl x1_lt h1 h2 h3
    unfold k2_pay102
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 7 y x _ _ _ _ (View.ld (Val := Elt Ideal) (e' := .f32) x0 r2_8) hm ho hd (ld7 x0) (fun p c => ?_)
      7 rfl x1_lt h1 h2 h3
    unfold k2_pay101 k2_pay100
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 6 y x _ _ _ _ (View.ld (Val := Elt Ideal) (e' := .f32) x0 r2_7) hm ho hd (ld6 x0) (fun p c => ?_)
      6 rfl x1_lt h1 h2 h3
    unfold k2_pay99
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 5 y x _ _ _ _ (View.ld (Val := Elt Ideal) (e' := .f32) x0 r2_6) hm ho hd (ld5 x0) (fun p c => ?_)
      5 rfl x1_lt h1 h2 h3
    unfold k2_pay98 k2_pay97
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 4 y x _ _ _ _ (View.ld (Val := Elt Ideal) (e' := .f32) x0 r2_5) hm ho hd (ld4 x0) (fun p c => ?_)
      4 rfl x1_lt h1 h2 h3
    unfold k2_pay96
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 3 y x _ _ _ _ (View.ld (Val := Elt Ideal) (e' := .f32) x0 r2_4) hm ho hd (ld3 x0) (fun p c => ?_)
      3 rfl x1_lt h1 h2 h3
    unfold k2_pay95
    generalize k2_pay113 (F := Ideal) x0 x1 x2 x3 = z
    generalize k2_pay132 (F := Ideal) x0 x1 x2 x3 = s
    generalize k2_pay133 (F := Ideal) x0 x1 x2 x3 = d
    pointwise []
  · refine piece x0 x1 x2 x3 2 y x _ _ _ _ (View.ld (Val := Elt Ideal) (e' := .f32) x0 r2_3) hm ho hd (ld2 x0) (fun p c => ?_)
      2 rfl x1_lt h1 h2 h3
    unfold k2_pay94 k2_pay93 k2_pay132 k2_pay133
    generalize k2_pay113 (F := Ideal) x0 x1 x2 x3 = z
    generalize k2_pay89 (F := Ideal) (k2_pay131 x0 x1 x2 x3) _ = s
    generalize k2_pay90 (F := Ideal) (k2_pay127 x0 x1 x2 x3) (k2_pay131 x0 x1 x2 x3) _ = d
    pointwise []
  · refine piece x0 x1 x2 x3 1 y x _ _ _ _ (View.ld (Val := Elt Ideal) (e' := .f32) x0 r2_2) hm ho hd (ld1 x0) (fun p c => ?_)
      1 rfl x1_lt h1 h2 h3
    unfold k2_pay92 k2_pay132 k2_pay133
    generalize k2_pay113 (F := Ideal) x0 x1 x2 x3 = z
    generalize k2_pay89 (F := Ideal) (k2_pay131 x0 x1 x2 x3) _ = s
    generalize k2_pay90 (F := Ideal) (k2_pay127 x0 x1 x2 x3) (k2_pay131 x0 x1 x2 x3) _ = d
    pointwise []
  · refine piece x0 x1 x2 x3 0 y x _ _ _ _ (View.ld (Val := Elt Ideal) (e' := .f32) x0 r2_1) hm ho hd (ld0 x0) (fun p c => ?_)
      0 rfl x1_lt (h1.trans (Nat.zero_add _).symm) h2 h3
    unfold k2_pay91 k2_pay132 k2_pay133
    generalize k2_pay113 (F := Ideal) x0 x1 x2 x3 = z
    generalize k2_pay89 (F := Ideal) (k2_pay131 x0 x1 x2 x3) _ = s
    generalize k2_pay90 (F := Ideal) (k2_pay127 x0 x1 x2 x3) (k2_pay131 x0 x1 x2 x3) _ = d
    pointwise []

variable (V : (c : Dev nD) → (b : Ref sig .tc) → Buf (Elt Ideal) ((c : Thread nD τ).loc b))

theorem idx2 : ∀ t : Fin cfg2.N, win2_0.index t = ![t.val, 0, 0, 0] ∧ win2_1.index t = ![0, 0]
    ∧ win2_2.index t = ![0, 0, 0, 0] ∧ win2_3.index t = ![0, 0, 0, 0]
    ∧ win2_4.index t = ![t.val, 0, 0, 0] := by decide +kernel

/-- The third region leaves the blended batch in its result array. -/
theorem arr_at (c : Dev nD) (X : Vec Ideal S4x16x1024x128 .f32) (hX : V c main_v1 = X)
    (Y : Vec Ideal S16x128 .f32) (hY : V c main_v5 = Y) (A : Vec Ideal S1x2x3x3 .f32) (hA : V c main_arg4 = A)
    (B : Vec Ideal S1x2x3x3 .f32) (hB : V c main_arg5 = B) :
    (dat2 V c).arrAt 4 cfg2.N = fun i : S4x16x1024x128.Idx =>
      blend (fun t p l => X (ix4 (i 0) t p l)) (fun t l => Y (ix2 t l)) A B (i 1) (i 2) (i 3) := by
  refine (dat2 V c).arrAt_eq_of_covers 4 _ (by decide +kernel) fun t hf y => ?_
  blk_simp
  rw [after2_4]
  have hx : ∀ (k : Fin 16) (p : Fin 1024) (l : Fin 128), iblk2 V c 0 t (ix4 0 k p l) = X (ix4 t k p l) := fun k p l => by
    rw [← hX]; blk_ext [iblk2, (idx2 t).1]
  have hy : ∀ (k : Fin 16) (l : Fin 128), iblk2 V c 1 t (ix2 k l) = Y (ix2 k l) := fun k l => by
    rw [← hY]; blk_ext [iblk2, (idx2 t).2.1]
  have ha : (iblk2 V c 2 t : S1x2x3x3.Idx → EReal) = A := by
    funext z; rw [← hA]; blk_ext [iblk2, (idx2 t).2.2.1]
  have hb : (iblk2 V c 3 t : S1x2x3x3.Idx → EReal) = B := by
    funext z; rw [← hB]; blk_ext [iblk2, (idx2 t).2.2.2.1]
  refine (out_at _ _ _ _ y).trans ?_
  simp only [hx, hy]
  rw [ha, hb]
  have e : ∀ y' : S1x16x1024x128.Idx, ((win2_4.blk t).view.emb y' : S4x16x1024x128.Idx) = ix4 t (y' 1) (y' 2) (y' 3) := fun y' => by
    blk_ext [(idx2 t).2.2.2.2]
  refine Eq.trans ?_ (congrArg (fun i : S4x16x1024x128.Idx =>
      blend (fun t p l => X (ix4 (i 0) t p l)) (fun t l => Y (ix2 t l)) A B (i 1) (i 2) (i 3)) (e y)).symm
  rfl

end Cert.KernelIdeal.Fused

end
-- ==== Proof.KernelValue.lean ====
/-
  The idealized kernel's result, read at an index as a formula of its arguments.
-/
module

public import proofs.«01_k».proof.Proof.Stats
public import proofs.«01_k».proof.Proof.Mask
public import proofs.«01_k».proof.Proof.Blend
public import Idealize.ShloMosaic.Lib.Claim

@[expose] public section

set_option maxRecDepth 16384

noncomputable section

namespace Cert.KernelIdeal.Final

open Idealize.ShloMosaic Idealize.ShloMosaic.TcCoe Cert.KernelIdeal Cert.KernelIdeal.Gen

/-- Row and column of a pixel. -/
def row (p : Fin 1024) : Fin 32 := ⟨p.val / 32, by omega⟩
def col (p : Fin 1024) : Fin 32 := ⟨p.val % 32, by omega⟩
def pix (h w : Fin 32) : Fin 1024 := ⟨h.val * 32 + w.val, by omega⟩

-- The arguments: the batch, the two scalars, the linear layer's matrix, the two windows.
variable (x : Vec Ideal S4x16x128x32x32 .f32) (a b : Vec Ideal S1 .f32) (l : Vec Ideal S16x16 .f32)
  (w w' : Vec Ideal S1x2x3x3 .f32)

/-- The statistic of a batch entry, frame and lane. -/
def statAt (n : Fin 4) (t : Fin 16) (c : Fin 128) : EReal :=
  Stats.stat (a (ix1 0)) (b (ix1 0)) fun p => x (ix5 n t c (row p) (col p))

/-- The score of a batch entry, frame and lane. -/
def score (n : Fin 4) (t : Fin 16) (c : Fin 128) : EReal := ∑ s : Fin 16, l (ix2 t s) * statAt x a b n s c

/-- The mask: one of the two selections, and not both. -/
def maskAt (t : Fin 16) (c : Fin 128) : EReal :=
  Rank.xor01 (Rank.flag (fun n c => score x a b l n t c) 64 c) (Rank.flag (fun n t => score x a b l n t c) 8 t)

/-- The result. -/
def result (i : S4x16x128x32x32.Idx) : EReal :=
  Fused.blend (fun t p c => x (ix5 (i 0) t c (row p) (col p))) (maskAt x a b l) w w' (i 1) (pix (i 3) (i 4)) (i 2)

variable (m : (ℓ : Loc nD τ sig) → Buf (Elt Ideal) ℓ) (ρ : Dev nD → PrngReg) (c : Dev nD)

theorem v1_at (n : Fin 4) (t : Fin 16) (p : Fin 1024) (k : Fin 128) :
    (W1 m ρ c (Proc.devRef .tc main_v1) : Vec Ideal S4x16x1024x128 .f32) (ix4 n t p k)
      = (m ((c : Thread nD τ).loc main_arg0) : Vec Ideal S4x16x128x32x32 .f32) (ix5 n t k (row p) (col p)) := by
  unfold W1
  entry_read
  pointwise []
  rfl

theorem v3_at :
    (W1 m ρ c (Proc.devRef .tc main_v3) : Vec Ideal S1x2 .f32) (ix2 0 0)
      = (m ((c : Thread nD τ).loc main_arg1) : Vec Ideal S1 .f32) (ix1 0) := by
  unfold W1
  entry_read
  pointwise []

theorem v3_at' :
    (W1 m ρ c (Proc.devRef .tc main_v3) : Vec Ideal S1x2 .f32) (ix2 0 1)
      = (m ((c : Thread nD τ).loc main_arg2) : Vec Ideal S1 .f32) (ix1 0) := by
  unfold W1
  entry_read
  pointwise []

theorem v8_at (n : Fin 4) (t : Fin 16) (k : Fin 128) (h z : Fin 32) :
    (W5 m ρ c (Proc.devRef .tc main_v8) : Vec Ideal S4x16x128x32x32 .f32) (ix5 n t k h z)
      = (W4 m ρ c (Proc.devRef .tc main_v6) : Vec Ideal S4x16x1024x128 .f32) (ix4 n t (pix h z) k) := by
  unfold W5
  entry_read
  pointwise []
  rfl

/-- After the first region: the statistics. -/
theorem v4_at (n : Fin 4) (t : Fin 16) (k : Fin 128) :
    (W2 m ρ c (Proc.devRef .tc main_v4) : Vec Ideal S4x16x128 .f32) (ix3 n t k)
      = statAt (m ((c : Thread nD τ).loc main_arg0)) (m ((c : Thread nD τ).loc main_arg1))
          (m ((c : Thread nD τ).loc main_arg2)) n t k := by
  refine (congrFun ((W2_arr m ρ c 2).trans (Stats.arr_at (V1 m ρ) c _ rfl _ rfl)) (ix3 n t k)).trans ?_
  refine (congr (congrArg₂ Stats.stat (v3_at m ρ c) (v3_at' m ρ c)) (funext fun p => v1_at m ρ c n t p k)).trans ?_
  rfl

/-- After the second region: the mask. -/
theorem v5_at (t : Fin 16) (k : Fin 128) :
    (W3 m ρ c (Proc.devRef .tc main_v5) : Vec Ideal S16x128 .f32) (ix2 t k)
      = maskAt (m ((c : Thread nD τ).loc main_arg0)) (m ((c : Thread nD τ).loc main_arg1))
          (m ((c : Thread nD τ).loc main_arg2)) (m ((c : Thread nD τ).loc main_arg3)) t k := by
  refine (congrFun ((W3_arr m ρ c 2).trans (Mask.arr_at (V2 m ρ) c _ rfl _ (W2_args m ρ c main_arg3 (by decide)))) (ix2 t k)).trans ?_
  have h : ∀ n s k, V2 m ρ c main_v4 (ix3 n s k) = _ := v4_at m ρ c
  exact congrArg₂ (fun f g => Rank.xor01 (Rank.flag f 64 k) (Rank.flag g 8 t))
    (funext fun n => funext fun k => Finset.sum_congr rfl fun s _ => congrArg ((_ : EReal) * ·) (h n s k))
    (funext fun n => funext fun t => Finset.sum_congr rfl fun s _ => congrArg ((_ : EReal) * ·) (h n s k))

/-- After the third region: the blended batch. -/
theorem v6_at (n : Fin 4) (t : Fin 16) (p : Fin 1024) (k : Fin 128) :
    (W4 m ρ c (Proc.devRef .tc main_v6) : Vec Ideal S4x16x1024x128 .f32) (ix4 n t p k)
      = Fused.blend (fun t p k => (m ((c : Thread nD τ).loc main_arg0) : Vec Ideal S4x16x128x32x32 .f32) (ix5 n t k (row p) (col p)))
          (maskAt (m ((c : Thread nD τ).loc main_arg0)) (m ((c : Thread nD τ).loc main_arg1))
            (m ((c : Thread nD τ).loc main_arg2)) (m ((c : Thread nD τ).loc main_arg3)))
          (m ((c : Thread nD τ).loc main_arg4)) (m ((c : Thread nD τ).loc main_arg5)) t p k := by
  have h1 : V3 m ρ c main_v1 = W1 m ρ c (Proc.devRef .tc main_v1) :=
    (W3_of m ρ c main_v1 (by decide +kernel)).trans (W2_of m ρ c main_v1 (by decide +kernel))
  refine (congrFun ((W4_arr m ρ c 4).trans (Fused.arr_at (V3 m ρ) c _ h1 _ rfl _ (W3_args m ρ c main_arg4 (by decide))
    _ (W3_args m ρ c main_arg5 (by decide)))) (ix4 n t p k)).trans ?_
  have h5 : ∀ t k, V3 m ρ c main_v5 (ix2 t k) = _ := v5_at m ρ c
  have hx : ∀ n t p k, W1 m ρ c (Proc.devRef .tc main_v1) (ix4 n t p k) = _ := v1_at m ρ c
  simp only [h5]
  exact congrArg (fun f => Fused.blend f _ _ _ _ _ _) (funext fun t => funext fun p => funext fun k => hx n t p k)

/-- The buffer of the result at the end of the run. -/
theorem result_at : (W5 m ρ c (Proc.devRef .tc main_v8) : Vec Ideal S4x16x128x32x32 .f32)
    = result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  funext i
  obtain ⟨n, t, k, h, z, rfl⟩ : ∃ n t k h z, i = ix5 n t k h z :=
    ⟨i 0, i 1, i 2, i 3, i 4, by funext e; fin_cases e <;> rfl⟩
  exact (v8_at m ρ c n t k h z).trans (v6_at m ρ c n t (pix h z) k)

end Cert.KernelIdeal.Final

end
-- ==== Proof.RefValue.lean ====
/-
  The reference's result, read at an index as a formula of its arguments.
-/
module

public import proofs.«01_k».proof.Proof.RefMask
public import proofs.«01_k».proof.Proof.KernelValue

@[expose] public section

set_option maxRecDepth 16384

noncomputable section

namespace Cert.ReferenceIdeal.RefValue

open Idealize.ShloMosaic Idealize.ShloMosaic.TcCoe Cert.ReferenceIdeal Cert.ReferenceIdeal.Gen Cert.ReferenceIdeal.Value
open Cert.KernelIdeal.Final (row col pix)
open Cert.KernelIdeal.Fused (shifted tap conv squash)

theorem row_pix (h w : Fin 32) : row (pix h w) = h := Fin.ext (by simp only [row, pix]; omega)
theorem col_pix (h w : Fin 32) : col (pix h w) = w := Fin.ext (by simp only [col, pix]; omega)
theorem pix_row_col (p : Fin 1024) : pix (row p) (col p) = p := Fin.ext (by simp only [row, col, pix]; omega)

/-- The frame and the lane of a channel. -/
def frameOf (k : Fin 2048) : Fin 16 := ⟨k.val / 128, by omega⟩
def laneOf (k : Fin 2048) : Fin 128 := ⟨k.val % 128, by omega⟩

/-- The mean of a picture. -/
def mean (f : Fin 1024 → EReal) : EReal := Ideal.div (∑ p, f p) (Ideal.ofBits .f32 1149239296#32)

/-- The largest value of a picture. -/
def top (f : Fin 1024 → EReal) : EReal := Finset.fold max (Ideal.ofBits .f32 4286578688#32) f Finset.univ

/-- The reference's weighed statistic of a picture. -/
def stat (a b : EReal) (f : Fin 1024 → EReal) : EReal :=
  Ideal.ofBits .f32 1056964608#32 * (mean f + top f) + a * mean f + b * top f

/-- The sum over the channels, over their number and over one half. -/
def chanMean (g : Fin 2048 → EReal) : EReal :=
  Ideal.div (Ideal.div (∑ k, g k) (Ideal.ofBits .f32 1157627904#32)) (Ideal.ofBits .f32 1056964608#32)

/-- The largest value over the channels. -/
def chanTop (g : Fin 2048 → EReal) : EReal := Finset.fold max (Ideal.ofBits .f32 4286578688#32) g Finset.univ

/-- A picture with a border of zeros. -/
def padded (f : Fin 1024 → EReal) (y x : Fin 34) : EReal :=
  if h : (1 ≤ y.val ∧ y.val - 1 < 32) ∧ 1 ≤ x.val ∧ x.val - 1 < 32 then
    f (pix ⟨y.val - 1, h.1.2⟩ ⟨x.val - 1, h.2.2⟩)
  else 0

theorem padded_shifted (f : Fin 1024 → EReal) (h w : Fin 32) (ky kx : ℕ) (y x : Fin 34)
    (hy : y.val = ky + h.val) (hx : x.val = kx + w.val) : padded f y x = shifted f ky kx (pix h w) := by
  have := h.isLt
  have := w.isLt
  have e1 : (pix h w).val / 32 = h.val := by simp only [pix]; omega
  have e2 : (pix h w).val % 32 = w.val := by simp only [pix]; omega
  unfold padded shifted
  split_ifs with h1 h2 h2
  · exact congrArg f (Fin.ext (by simp only [pix]; omega))
  · omega
  · omega
  · rfl

variable (V0 : Valuation τ sig (Elt Ideal))

/-- The arguments. -/
abbrev X : Vec Ideal S4x16x128x32x32 .f32 := V0 (Proc.devRef .tc main_arg0)
abbrev A : Vec Ideal S1 .f32 := V0 (Proc.devRef .tc main_arg1)
abbrev B : Vec Ideal S1 .f32 := V0 (Proc.devRef .tc main_arg2)
abbrev L : Vec Ideal S16x16 .f32 := V0 (Proc.devRef .tc main_arg3)
abbrev W : Vec Ideal S1x2x3x3 .f32 := V0 (Proc.devRef .tc main_arg4)
abbrev W' : Vec Ideal S1x2x3x3 .f32 := V0 (Proc.devRef .tc main_arg5)

theorem fiber (n : Fin 4) (t : Fin 16) (c : Fin 128) (i : S4x16x128x32x32.Idx) :
    reducesTo_S4x16x128x32x32_S4x16x128_d3_4.drop i = ix3 n t c
      ↔ ∃ p : Fin 1024, ix5 n t c (row p) (col p) = i := by
  constructor
  · intro e
    refine ⟨pix (i 3) (i 4), ?_⟩
    have e0 : (i 0 : ℕ) = n := (Shape.ReducesTo.drop_apply_val reducesTo_S4x16x128x32x32_S4x16x128_d3_4 i 0).symm.trans (congrArg Fin.val (congrFun e 0))
    have e1 : (i 1 : ℕ) = t := (Shape.ReducesTo.drop_apply_val reducesTo_S4x16x128x32x32_S4x16x128_d3_4 i 1).symm.trans (congrArg Fin.val (congrFun e 1))
    have e2 : (i 2 : ℕ) = c := (Shape.ReducesTo.drop_apply_val reducesTo_S4x16x128x32x32_S4x16x128_d3_4 i 2).symm.trans (congrArg Fin.val (congrFun e 2))
    funext a
    fin_cases a
    · exact Fin.ext e0.symm
    · exact Fin.ext e1.symm
    · exact Fin.ext e2.symm
    · exact row_pix (i 3) (i 4)
    · exact col_pix (i 3) (i 4)
  · rintro ⟨p, rfl⟩
    funext b
    fin_cases b <;> rfl

theorem fiber_inj (n : Fin 4) (t : Fin 16) (c : Fin 128) :
    Function.Injective fun p : Fin 1024 => (ix5 n t c (row p) (col p) : S4x16x128x32x32.Idx) := fun p q e => by
  have h1 : row p = row q := congrFun e 3
  have h2 : col p = col q := congrFun e 4
  rw [← pix_row_col p, ← pix_row_col q, h1, h2]

theorem v3_at (n : Fin 4) (t : Fin 16) (c : Fin 128) :
    (res_main_v3 V0 : FVec Ideal S4x16x128x1x1 .f32) (ix5 n t c 0 0)
      = mean fun p => X V0 (ix5 n t c (row p) (col p)) := by
  unfold res_main_v3
  pointwise []
  unfold mean
  refine congrArg (Ideal.div · _) ?_
  refine (zero_add _).trans ?_
  exact Finset.sum_filter_eq_sum_of_fiber _ _ (fiber_inj n t c) (fiber n t c) _

theorem v5_at (n : Fin 4) (t : Fin 16) (c : Fin 128) :
    (res_main_v5 V0 : FVec Ideal S4x16x128x1x1 .f32) (ix5 n t c 0 0)
      = top fun p => X V0 (ix5 n t c (row p) (col p)) := by
  unfold res_main_v5
  pointwise []
  exact Finset.fold_filter_eq_fold_of_fiber _ _ _ (fiber_inj n t c) (fiber n t c) _ _

theorem v20_at (n : Fin 4) (t : Fin 16) (c : Fin 128) :
    RefMask.tab V0 n t c
      = (∑ s : Fin 16, stat (A V0 (ix1 0)) (B V0 (ix1 0)) (fun p => X V0 (ix5 n s c (row p) (col p))) * L V0 (ix2 t s) : EReal) := by
  have h3 := v3_at V0
  have h5 := v5_at V0
  unfold RefMask.tab res_main_v20
  generalize res_main_v3 V0 = z3 at h3 ⊢
  generalize res_main_v5 V0 = z5 at h5 ⊢
  pointwise []
  simp only [h3, h5]
  rfl

/-- The reference's mask. -/
def mark (n : Fin 4) (t : Fin 16) (c : Fin 128) : EReal :=
  (res_main_v70 V0 : FVec Ideal S4x16x128x1x1 .f32) (ix5 n t c 0 0)

/-- The marked part of the batch. -/
def partIn (n : Fin 4) (p : Fin 1024) (k : Fin 2048) : EReal :=
  mark V0 n (frameOf k) (laneOf k)
    * X V0 (ix5 n (frameOf k) (laneOf k) (row p) (col p))

/-- The unmarked part of the batch. -/
def partOut (n : Fin 4) (p : Fin 1024) (k : Fin 2048) : EReal :=
  (1 - mark V0 n (frameOf k) (laneOf k))
    * X V0 (ix5 n (frameOf k) (laneOf k) (row p) (col p))

theorem v76_at (n : Fin 4) (k : Fin 2048) (h w : Fin 32) :
    (res_main_v76 V0 : FVec Ideal S4x2048x32x32 .f32) (ix4 n k h w) = partIn V0 n (pix h w) k := by
  unfold res_main_v76 partIn mark
  rw [row_pix, col_pix]
  pointwise []
  rfl

theorem v80_at (n : Fin 4) (k : Fin 2048) (h w : Fin 32) :
    (res_main_v80 V0 : FVec Ideal S4x2048x32x32 .f32) (ix4 n k h w) = partOut V0 n (pix h w) k := by
  unfold res_main_v80 partOut mark id
  rw [row_pix, col_pix]
  generalize res_main_v70 V0 = z
  pointwise []
  rfl

theorem sitofp_zero : (FloatOps.sitofp (F := Ideal) FTy.f32 (0#32) : EReal) = 0 := Rank.sitofp_bit false

theorem v99_at0 (n : Fin 4) (y x : Fin 34) :
    (res_main_v99 V0 : FVec Ideal S4x2x34x34 .f32) (ix4 n 0 y x) = padded (fun p => chanMean (partIn V0 n p)) y x := by
  have hz := v76_at V0
  unfold res_main_v99 padded
  generalize res_main_v76 V0 = z at hz ⊢
  pointwise []
  simp only [hz, sitofp_zero]
  rfl

theorem v99_at1 (n : Fin 4) (y x : Fin 34) :
    (res_main_v99 V0 : FVec Ideal S4x2x34x34 .f32) (ix4 n 1 y x) = padded (fun p => chanTop (partIn V0 n p)) y x := by
  have hz := v76_at V0
  unfold res_main_v99 padded
  generalize res_main_v76 V0 = z at hz ⊢
  pointwise []
  by_cases h : (1 ≤ y.val ∧ y.val - 1 < 32) ∧ 1 ≤ x.val ∧ x.val - 1 < 32
  · rw [dif_pos h, dif_pos h]
    refine (Shape.ReducesTo.fold_fiber_r4_a1 _ _ _ _ _).trans ?_
    exact congrArg (fun g => Finset.fold max (Ideal.ofBits .f32 4286578688#32) g Finset.univ) (funext fun k => hz n k _ _)
  · rw [dif_neg h, dif_neg h]
    exact sitofp_zero

theorem v234_at0 (n : Fin 4) (y x : Fin 34) :
    (res_main_v234 V0 : FVec Ideal S4x2x34x34 .f32) (ix4 n 0 y x) = padded (fun p => chanMean (partOut V0 n p)) y x := by
  have hz := v80_at V0
  unfold res_main_v234 padded
  generalize res_main_v80 V0 = z at hz ⊢
  pointwise []
  simp only [hz, sitofp_zero]
  rfl

theorem v234_at1 (n : Fin 4) (y x : Fin 34) :
    (res_main_v234 V0 : FVec Ideal S4x2x34x34 .f32) (ix4 n 1 y x) = padded (fun p => chanTop (partOut V0 n p)) y x := by
  have hz := v80_at V0
  unfold res_main_v234 padded
  generalize res_main_v80 V0 = z at hz ⊢
  pointwise []
  by_cases h : (1 ≤ y.val ∧ y.val - 1 < 32) ∧ 1 ≤ x.val ∧ x.val - 1 < 32
  · rw [dif_pos h, dif_pos h]
    refine (Shape.ReducesTo.fold_fiber_r4_a1 _ _ _ _ _).trans ?_
    exact congrArg (fun g => Finset.fold max (Ideal.ofBits .f32 4286578688#32) g Finset.univ) (funext fun k => hz n k _ _)
  · rw [dif_neg h, dif_neg h]
    exact sitofp_zero

/-- The reference's weight of the marked part, and of the unmarked part. -/
def weight (w : Vec Ideal S1x2x3x3 .f32) (g : Fin 1024 → Fin 2048 → EReal) (p : Fin 1024) : EReal :=
  squash (conv w (fun q => chanMean (g q)) (fun q => chanTop (g q)) p)

/-- The convolution over a bordered picture, its products added one after another. -/
theorem conv_padded (w : Vec Ideal S1x2x3x3 .f32) (f g : Fin 1024 → EReal) (h z : Fin 32) :
    w (ix4 0 0 0 0) * padded f ⟨h.val, by omega⟩ ⟨z.val, by omega⟩
      + w (ix4 0 1 0 0) * padded g ⟨h.val, by omega⟩ ⟨z.val, by omega⟩
      + w (ix4 0 0 0 1) * padded f ⟨h.val, by omega⟩ ⟨1 + z.val, by omega⟩
      + w (ix4 0 1 0 1) * padded g ⟨h.val, by omega⟩ ⟨1 + z.val, by omega⟩
      + w (ix4 0 0 0 2) * padded f ⟨h.val, by omega⟩ ⟨2 + z.val, by omega⟩
      + w (ix4 0 1 0 2) * padded g ⟨h.val, by omega⟩ ⟨2 + z.val, by omega⟩
      + w (ix4 0 0 1 0) * padded f ⟨1 + h.val, by omega⟩ ⟨z.val, by omega⟩
      + w (ix4 0 1 1 0) * padded g ⟨1 + h.val, by omega⟩ ⟨z.val, by omega⟩
      + w (ix4 0 0 1 1) * padded f ⟨1 + h.val, by omega⟩ ⟨1 + z.val, by omega⟩
      + w (ix4 0 1 1 1) * padded g ⟨1 + h.val, by omega⟩ ⟨1 + z.val, by omega⟩
      + w (ix4 0 0 1 2) * padded f ⟨1 + h.val, by omega⟩ ⟨2 + z.val, by omega⟩
      + w (ix4 0 1 1 2) * padded g ⟨1 + h.val, by omega⟩ ⟨2 + z.val, by omega⟩
      + w (ix4 0 0 2 0) * padded f ⟨2 + h.val, by omega⟩ ⟨z.val, by omega⟩
      + w (ix4 0 1 2 0) * padded g ⟨2 + h.val, by omega⟩ ⟨z.val, by omega⟩
      + w (ix4 0 0 2 1) * padded f ⟨2 + h.val, by omega⟩ ⟨1 + z.val, by omega⟩
      + w (ix4 0 1 2 1) * padded g ⟨2 + h.val, by omega⟩ ⟨1 + z.val, by omega⟩
      + w (ix4 0 0 2 2) * padded f ⟨2 + h.val, by omega⟩ ⟨2 + z.val, by omega⟩
      + w (ix4 0 1 2 2) * padded g ⟨2 + h.val, by omega⟩ ⟨2 + z.val, by omega⟩
      = conv w f g (pix h z) := by
  rw [padded_shifted f h z 0 0 ⟨h.val, by omega⟩ ⟨z.val, by omega⟩ (by simp) (by simp),
    padded_shifted g h z 0 0 ⟨h.val, by omega⟩ ⟨z.val, by omega⟩ (by simp) (by simp),
    padded_shifted f h z 0 1 ⟨h.val, by omega⟩ ⟨1 + z.val, by omega⟩ (by simp) (by rfl),
    padded_shifted g h z 0 1 ⟨h.val, by omega⟩ ⟨1 + z.val, by omega⟩ (by simp) (by rfl),
    padded_shifted f h z 0 2 ⟨h.val, by omega⟩ ⟨2 + z.val, by omega⟩ (by simp) (by rfl),
    padded_shifted g h z 0 2 ⟨h.val, by omega⟩ ⟨2 + z.val, by omega⟩ (by simp) (by rfl),
    padded_shifted f h z 1 0 ⟨1 + h.val, by omega⟩ ⟨z.val, by omega⟩ (by rfl) (by simp),
    padded_shifted g h z 1 0 ⟨1 + h.val, by omega⟩ ⟨z.val, by omega⟩ (by rfl) (by simp),
    padded_shifted f h z 1 1 ⟨1 + h.val, by omega⟩ ⟨1 + z.val, by omega⟩ (by rfl) (by rfl),
    padded_shifted g h z 1 1 ⟨1 + h.val, by omega⟩ ⟨1 + z.val, by omega⟩ (by rfl) (by rfl),
    padded_shifted f h z 1 2 ⟨1 + h.val, by omega⟩ ⟨2 + z.val, by omega⟩ (by rfl) (by rfl),
    padded_shifted g h z 1 2 ⟨1 + h.val, by omega⟩ ⟨2 + z.val, by omega⟩ (by rfl) (by rfl),
    padded_shifted f h z 2 0 ⟨2 + h.val, by omega⟩ ⟨z.val, by omega⟩ (by rfl) (by simp),
    padded_shifted g h z 2 0 ⟨2 + h.val, by omega⟩ ⟨z.val, by omega⟩ (by rfl) (by simp),
    padded_shifted f h z 2 1 ⟨2 + h.val, by omega⟩ ⟨1 + z.val, by omega⟩ (by rfl) (by rfl),
    padded_shifted g h z 2 1 ⟨2 + h.val, by omega⟩ ⟨1 + z.val, by omega⟩ (by rfl) (by rfl),
    padded_shifted f h z 2 2 ⟨2 + h.val, by omega⟩ ⟨2 + z.val, by omega⟩ (by rfl) (by rfl),
    padded_shifted g h z 2 2 ⟨2 + h.val, by omega⟩ ⟨2 + z.val, by omega⟩ (by rfl) (by rfl)]
  unfold conv tap
  simp only [← add_assoc]
  rfl

theorem v373_at (n : Fin 4) (k : Fin 2048) (h w : Fin 32) :
    (res_main_v373 V0 : FVec Ideal S4x2048x32x32 .f32) (ix4 n k h w)
      = weight (W V0) (partIn V0 n) (pix h w) * partIn V0 n (pix h w) k
        + weight (W' V0) (partOut V0 n) (pix h w) * partOut V0 n (pix h w) k := by
  have h0 := v99_at0 V0
  have h1 := v99_at1 V0
  have g0 := v234_at0 V0
  have g1 := v234_at1 V0
  have e1 := v76_at V0
  have e2 := v80_at V0
  unfold res_main_v373 res_main_v184 res_main_v312
  generalize res_main_v99 V0 = z at h0 h1 ⊢
  generalize res_main_v234 V0 = z' at g0 g1 ⊢
  generalize res_main_v76 V0 = u at e1 ⊢
  generalize res_main_v80 V0 = u' at e2 ⊢
  pointwise []
  rw [e1, e2]
  simp only [h0, h1, g0, g1]
  rw [conv_padded (W V0), conv_padded (W' V0)]
  simp only [weight, squash, zero_sub]

end Cert.ReferenceIdeal.RefValue

end
-- ==== Proof.Equations.lean ====
/-
  The equations between the kernel's formulas and the reference's, for a batch of finite numbers.
-/
module

public import proofs.«01_k».proof.Proof.RefValue
public import proofs.«01_k».proof.Proof.Sums

@[expose] public section

set_option maxRecDepth 16384

noncomputable section

namespace Cert.Equations

open Idealize.ShloMosaic Idealize.ShloMosaic.TcCoe
open Cert.KernelIdeal.Fused (total peak conv tap squash shifted)
open Cert.ReferenceIdeal.RefValue (mean top chanMean chanTop frameOf laneOf)

/-! ## The constants -/

theorem bits1024 : Ideal.ofBits .f32 1149239296#32 = ((1024 : ℝ) : EReal) := by
  simp [Ideal.ofBits, Ideal.ieee, -EReal.coe_mul]; norm_num

theorem bits2048 : Ideal.ofBits .f32 1157627904#32 = ((2048 : ℝ) : EReal) := by
  simp [Ideal.ofBits, Ideal.ieee, -EReal.coe_mul]; norm_num

theorem bitsInv : Ideal.ofBits .f32 981467136#32 = ((1 / 1024 : ℝ) : EReal) := by
  simp [Ideal.ofBits, Ideal.ieee, -EReal.coe_mul]; norm_num

theorem bitsBot : Ideal.ofBits .f32 4286578688#32 = ⊥ := by
  simp [Ideal.ofBits, Ideal.ieee]

theorem div_coe (x : EReal) (r : ℝ) (h : r ≠ 0) : Ideal.div x r = x * ((r⁻¹ : ℝ) : EReal) := by
  unfold Ideal.div
  rw [if_neg (by exact_mod_cast h), EReal.coe_inv]

/-! ## The statistics -/

theorem add_mul_coe (h : ℝ) (a : EReal) (r : ℝ) : ((h : EReal) + a) * r = h * r + a * r := by
  induction a using EReal.rec with
  | bot =>
    rcases lt_trichotomy r 0 with hr | hr | hr
    · rw [EReal.add_bot, EReal.bot_mul_coe_of_neg hr, ← EReal.coe_mul, EReal.coe_add_top]
    · subst hr; simp
    · rw [EReal.add_bot, EReal.bot_mul_coe_of_pos hr, EReal.add_bot]
  | coe a => norm_cast; ring
  | top =>
    rcases lt_trichotomy r 0 with hr | hr | hr
    · rw [EReal.coe_add_top, EReal.top_mul_coe_of_neg hr, EReal.add_bot]
    · subst hr; simp
    · rw [EReal.coe_add_top, EReal.top_mul_coe_of_pos hr, ← EReal.coe_mul, EReal.coe_add_top]

theorem stat_eq (a b : EReal) (f : Fin 1024 → ℝ) :
    Cert.KernelIdeal.Stats.stat a b (fun p => (f p : EReal)) = Cert.ReferenceIdeal.RefValue.stat a b (fun p => (f p : EReal)) := by
  obtain ⟨M, hM⟩ := Sums.fold_max_coe Finset.univ Finset.univ_nonempty f
  unfold Cert.KernelIdeal.Stats.stat Cert.ReferenceIdeal.RefValue.stat mean top
  rw [bitsBot, hM, Sums.coe_sum, bits1024, div_coe _ _ (by norm_num), bitsInv, Rank.bitsHalf, mul_assoc]
  rw [← EReal.coe_mul, ← EReal.coe_mul, inv_eq_one_div]
  rw [mul_comm (1 / 1024 : ℝ)]
  generalize (∑ p, f p) * (1 / 1024 : ℝ) = r
  have e : ((1 / 2 : ℝ) : EReal) * ((r : EReal) + M) = ((1 / 2 : ℝ) : EReal) * r + ((1 / 2 : ℝ) : EReal) * M := by
    norm_cast; ring
  rw [add_mul_coe, add_mul_coe, e]
  simp only [add_assoc, add_left_comm]

/-! ## Sums and maxima over the channels -/

theorem chan_sum (f : Fin 16 → Fin 128 → EReal) : ∑ k : Fin 2048, f (frameOf k) (laneOf k) = total f := by
  unfold total
  rw [Finset.sum_comm, ← Fintype.sum_prod_type']
  refine Fintype.sum_equiv (finProdFinEquiv (m := 16) (n := 128)).symm _ _ fun k => ?_
  rfl

theorem chan_top (f : Fin 16 → Fin 128 → EReal) : chanTop (fun k => f (frameOf k) (laneOf k)) = peak f := by
  unfold chanTop peak
  refine le_antisymm ?_ ?_
  · rw [Finset.fold_max_le]
    refine ⟨Finset.le_fold_max _ |>.mpr (Or.inl le_rfl), fun k _ => ?_⟩
    exact (Finset.le_fold_max _).mpr (Or.inr ⟨laneOf k, Finset.mem_univ _,
      (Finset.le_fold_max _).mpr (Or.inr ⟨frameOf k, Finset.mem_univ _, le_rfl⟩)⟩)
  · rw [Finset.fold_max_le]
    refine ⟨Finset.le_fold_max _ |>.mpr (Or.inl le_rfl), fun c _ => ?_⟩
    rw [Finset.fold_max_le]
    refine ⟨Finset.le_fold_max _ |>.mpr (Or.inl le_rfl), fun t _ => ?_⟩
    refine (Finset.le_fold_max _).mpr (Or.inr ⟨⟨t.val * 128 + c.val, by omega⟩, Finset.mem_univ _, ?_⟩)
    have e1 : frameOf ⟨t.val * 128 + c.val, by omega⟩ = t := Fin.ext (by simp only [frameOf]; omega)
    have e2 : laneOf ⟨t.val * 128 + c.val, by omega⟩ = c := Fin.ext (by simp only [laneOf]; omega)
    rw [e1, e2]

theorem chan_mean (f : Fin 16 → Fin 128 → EReal) :
    chanMean (fun k => f (frameOf k) (laneOf k)) = total f * Ideal.ofBits .f32 981467136#32 := by
  unfold chanMean
  rw [chan_sum, bits2048, Rank.bitsHalf, div_coe _ _ (by norm_num), div_coe _ _ (by norm_num), mul_assoc, bitsInv,
    ← EReal.coe_mul]
  congr 2
  norm_num

theorem out_sum (x m : Fin 16 → Fin 128 → ℝ) :
    total (fun t c => (x t c : EReal)) - total (fun t c => (x t c : EReal) * (m t c : EReal))
      = total (fun t c => (1 - (m t c : EReal)) * (x t c : EReal)) := by
  unfold total
  have e : ∀ a : Fin 16 → Fin 128 → ℝ, ∑ c, ∑ t, (a t c : EReal) = ((∑ c, ∑ t, a t c : ℝ) : EReal) := fun a => by
    simp only [Sums.coe_sum]
  have h1 : ∀ t c, (x t c : EReal) * (m t c : EReal) = ((x t c * m t c : ℝ) : EReal) := fun t c => (EReal.coe_mul _ _).symm
  have h2 : ∀ t c, (1 - (m t c : EReal)) * (x t c : EReal) = (((1 - m t c) * x t c : ℝ) : EReal) := fun t c => by
    norm_cast
  simp only [h1, h2, e]
  rw [← EReal.coe_sub, ← Finset.sum_sub_distrib]
  congr 1
  refine Finset.sum_congr rfl fun c _ => ?_
  rw [← Finset.sum_sub_distrib]
  exact Finset.sum_congr rfl fun t _ => by ring

/-! ## The blend -/

theorem squash_real (a : EReal) : ∃ r : ℝ, squash a = r := by
  unfold squash
  induction a using EReal.rec with
  | bot =>
    refine ⟨0, ?_⟩
    rw [show (0 : EReal) - ⊥ = ⊤ by simp, Ideal.exp_top, show (1 : EReal) + ⊤ = ⊤ from EReal.coe_add_top 1]
    unfold Ideal.div
    simp
  | coe a =>
    refine ⟨(1 + Real.exp (0 - a))⁻¹, ?_⟩
    have h : (1 + Real.exp (0 - a)) ≠ 0 := by positivity
    rw [← EReal.coe_zero, ← EReal.coe_sub, Ideal.exp_coe, ← EReal.coe_one, ← EReal.coe_add, div_coe _ _ h, ← EReal.coe_mul, one_mul]
  | top =>
    refine ⟨1, ?_⟩
    rw [show (0 : EReal) - ⊤ = ⊥ by simp, Ideal.exp_bot, add_zero]
    have := div_coe 1 1 one_ne_zero
    simpa using this

theorem blend_eq (x i s : ℝ) (m : EReal) (h : m = 0 ∨ m = 1) :
    (x : EReal) * (s + ((i : EReal) - s) * m) = i * (m * x) + s * ((1 - m) * x) := by
  rcases h with rfl | rfl
  · simp [mul_comm]
  · have : (1 : EReal) - 1 = 0 := by
      rw [← EReal.coe_one, ← EReal.coe_sub, sub_self, EReal.coe_zero]
    rw [this]
    norm_cast
    simp only [mul_one, one_mul, zero_mul, mul_zero, add_zero]
    norm_cast
    ring

/-! ## The whole result -/

open Cert.ReferenceIdeal Cert.ReferenceIdeal.Gen Cert.ReferenceIdeal.Value Cert.ReferenceIdeal.RefValue
open Cert.KernelIdeal.Final (row col pix statAt score maskAt result)

variable (V0 : Valuation τ sig (Elt Ideal)) (x : Cert.ReferenceIdeal.S4x16x128x32x32.Idx → ℝ) (hx : X V0 = fun i => (x i : EReal))

include hx in
theorem tab_eq (n : Fin 4) (t : Fin 16) (c : Fin 128) :
    RefMask.tab V0 n t c = score (X V0) (A V0) (B V0) (L V0) n t c := by
  rw [v20_at]
  unfold score statAt
  refine Finset.sum_congr rfl fun s _ => ?_
  rw [hx, mul_comm, stat_eq]

include hx in
theorem mark_eq (n : Fin 4) (t : Fin 16) (c : Fin 128) :
    mark V0 n t c = maskAt (X V0) (A V0) (B V0) (L V0) t c
      ∧ (maskAt (X V0) (A V0) (B V0) (L V0) t c = 0 ∨ maskAt (X V0) (A V0) (B V0) (L V0) t c = 1) := by
  have h := Rank.xor_eq _ _ (Rank.flag_cases (fun n c => score (X V0) (A V0) (B V0) (L V0) n t c) 64 c)
    (Rank.flag_cases (fun n t => score (X V0) (A V0) (B V0) (L V0) n t c) 8 t)
  refine ⟨Eq.trans ?_ h.1, h.2⟩
  refine (RefMask.v70_at V0 n t c).trans ?_
  simp only [tab_eq V0 x hx]

/-- The mask of the arguments. -/
abbrev M (t : Fin 16) (c : Fin 128) : EReal := maskAt (X V0) (A V0) (B V0) (L V0) t c
/-- A batch entry's values by frame, pixel and lane. -/
abbrev E (n : Fin 4) (t : Fin 16) (p : Fin 1024) (c : Fin 128) : EReal := X V0 (ix5 n t c (row p) (col p))

include hx in
theorem mark_real : ∃ m : Fin 16 → Fin 128 → ℝ, M V0 = fun t c => (m t c : EReal) := by
  have h : ∀ t c, ∃ r : ℝ, M V0 t c = r := fun t c => by
    rcases (mark_eq V0 x hx 0 t c).2 with e | e
    · exact ⟨0, e⟩
    · exact ⟨1, e⟩
  choose m hm using h
  exact ⟨m, funext fun t => funext fun c => hm t c⟩

include hx in
theorem partIn_eq (n : Fin 4) (p : Fin 1024) :
    partIn V0 n p = fun k => (fun t c => E V0 n t p c * M V0 t c) (frameOf k) (laneOf k) := by
  funext k
  unfold partIn
  rw [(mark_eq V0 x hx n _ _).1, mul_comm]

include hx in
theorem partOut_eq (n : Fin 4) (p : Fin 1024) :
    partOut V0 n p = fun k => (fun t c => (1 - M V0 t c) * E V0 n t p c) (frameOf k) (laneOf k) := by
  funext k
  unfold partOut
  rw [(mark_eq V0 x hx n _ _).1]

include hx in
theorem weightIn_eq (n : Fin 4) (p : Fin 1024) :
    weight (W V0) (partIn V0 n) p = Cert.KernelIdeal.Fused.weightIn (E V0 n) (M V0) (W V0) p := by
  have h1 : ∀ q, chanMean (partIn V0 n q) = total (fun t c => E V0 n t q c * M V0 t c) * Ideal.ofBits .f32 981467136#32 :=
    fun q => (congrArg chanMean (partIn_eq V0 x hx n q)).trans (chan_mean fun t c => E V0 n t q c * M V0 t c)
  have h2 : ∀ q, chanTop (partIn V0 n q) = peak fun t c => E V0 n t q c * M V0 t c :=
    fun q => (congrArg chanTop (partIn_eq V0 x hx n q)).trans (chan_top fun t c => E V0 n t q c * M V0 t c)
  unfold weight Cert.KernelIdeal.Fused.weightIn
  simp only [h1, h2]

include hx in
theorem weightOut_eq (n : Fin 4) (p : Fin 1024) :
    weight (W' V0) (partOut V0 n) p = Cert.KernelIdeal.Fused.weightOut (E V0 n) (M V0) (W' V0) p := by
  obtain ⟨m, hm⟩ := mark_real V0 x hx
  have he : E V0 n = fun t p c => (x (ix5 n t c (row p) (col p)) : EReal) := by
    funext t p c
    exact congrFun hx _
  have h1 : ∀ q, chanMean (partOut V0 n q) = total (fun t c => (1 - M V0 t c) * E V0 n t q c) * Ideal.ofBits .f32 981467136#32 :=
    fun q => (congrArg chanMean (partOut_eq V0 x hx n q)).trans (chan_mean fun t c => (1 - M V0 t c) * E V0 n t q c)
  have h2 : ∀ q, chanTop (partOut V0 n q) = peak fun t c => (1 - M V0 t c) * E V0 n t q c :=
    fun q => (congrArg chanTop (partOut_eq V0 x hx n q)).trans (chan_top fun t c => (1 - M V0 t c) * E V0 n t q c)
  have ht : ∀ a b : ℝ, (1 - (b : EReal)) * (a : EReal) = (a : EReal) - a * b := fun a b => by
    norm_cast; ring
  unfold weight Cert.KernelIdeal.Fused.weightOut
  have h3 : ∀ q, total (fun t c => E V0 n t q c) - total (fun t c => E V0 n t q c * M V0 t c)
      = total fun t c => (1 - M V0 t c) * E V0 n t q c := fun q => by
    rw [hm, he]
    exact out_sum (fun t c => x (ix5 n t c (row q) (col q))) m
  have h4 : ∀ q, (fun t c => E V0 n t q c - E V0 n t q c * M V0 t c) = fun t c => (1 - M V0 t c) * E V0 n t q c := fun q => by
    rw [hm, he]
    funext t c
    exact (ht _ _).symm
  simp only [h1, h2, h3, h4]

include hx in
/-- The two results agree at every index. -/
theorem result_eq :
    (shapeCast Cert.ReferenceIdeal.S4x16x128x32x32 (res_main_v373 V0 : FVec Ideal S4x2048x32x32 .f32) shapeCasts_S4x2048x32x32_S4x16x128x32x32)
      = result (X V0) (A V0) (B V0) (L V0) (W V0) (W' V0) := by
  funext i
  obtain ⟨n, t, c, h, w, rfl⟩ : ∃ n t c h w, i = ix5 n t c h w :=
    ⟨i 0, i 1, i 2, i 3, i 4, by funext e; fin_cases e <;> rfl⟩
  have hv := v373_at V0
  generalize res_main_v373 V0 = z at hv ⊢
  pointwise []
  rw [hv, weightIn_eq V0 x hx, weightOut_eq V0 x hx, partIn_eq V0 x hx, partOut_eq V0 x hx]
  have e1 : frameOf ⟨t.val * 128 + c.val, by omega⟩ = t := Fin.ext (by simp only [frameOf]; omega)
  have e2 : laneOf ⟨t.val * 128 + c.val, by omega⟩ = c := Fin.ext (by simp only [laneOf]; omega)
  obtain ⟨i, hi⟩ := squash_real (conv (W V0) (fun q => total (fun t c => E V0 n t q c * M V0 t c) * Ideal.ofBits .f32 981467136#32)
    (fun q => peak fun t c => E V0 n t q c * M V0 t c) (pix h w))
  obtain ⟨s, hs⟩ := squash_real (conv (W' V0) (fun q => (total (fun t c => E V0 n t q c) - total (fun t c => E V0 n t q c * M V0 t c))
      * Ideal.ofBits .f32 981467136#32) (fun q => peak fun t c => E V0 n t q c - E V0 n t q c * M V0 t c) (pix h w))
  have hi' : Cert.KernelIdeal.Fused.weightIn (E V0 n) (M V0) (W V0) (pix h w) = i := hi
  have hs' : Cert.KernelIdeal.Fused.weightOut (E V0 n) (M V0) (W' V0) (pix h w) = s := hs
  have hxe : E V0 n t (pix h w) c = x (ix5 n t c h w) := by
    refine (congrFun hx _).trans ?_
    rw [row_pix, col_pix]
  show _ = Cert.KernelIdeal.Fused.blend (E V0 n) (M V0) (W V0) (W' V0) t (pix h w) c
  unfold Cert.KernelIdeal.Fused.blend
  simp only [e1, e2]
  rw [hi', hs', hxe]
  rw [mul_comm (x (ix5 n t c h w) : EReal) (M V0 t c)]
  exact (blend_eq _ _ _ _ (mark_eq V0 x hx n t c).2).symm

end Cert.Equations

end
-- ==== Proof.Finite.lean ====
/-
  An argument the precondition admits holds real numbers.
-/
module

public import proofs.«01_k».proof.Defs
public import proofs.«01_k».proof.Proof.Equations

@[expose] public section

noncomputable section

namespace Cert.Finite

open Idealize.ShloMosaic

/-- The side condition of the precondition's function. -/
instance preFacts : Cert.Pre_x_finite.Facts := ⟨by decide⟩

theorem bitsPos : Ideal.ofBits .f32 0x7F800000#32 = (⊤ : EReal) := by simp [Ideal.ofBits, Ideal.ieee]

theorem both (p q : Prop) [Decidable p] [Decidable q] (h : BitVec.ofBool (decide p) &&& BitVec.ofBool (decide q) = 1#1) :
    p ∧ q := by
  by_cases hp : p <;> by_cases hq : q <;> simp_all

/-- An array strictly between the two infinities is an array of reals. -/
theorem real_of_pre (x : FVec Ideal Cert.Pre_x_finite.S4x16x128x32x32 .f32) (a b l w w')
    (h : Cert.Pre_x_finite.fn (F := Ideal) x a b l w w' = fun _ => 1#1) :
    ∃ r : Cert.Pre_x_finite.S4x16x128x32x32.Idx → ℝ, x = fun i => (r i : EReal) := by
  have hi : ∀ i, ∃ r : ℝ, (x i : EReal) = r := fun i => by
    have e := congrFun h i
    obtain ⟨e1, e2⟩ := both (Ideal.ofBits .f32 0xFF800000#32 < (x i : EReal)) ((x i : EReal) < Ideal.ofBits .f32 0x7F800000#32) e
    rw [Cert.Equations.bitsBot] at e1
    rw [bitsPos] at e2
    exact ⟨(x i : EReal).toReal, (EReal.coe_toReal e2.ne e1.ne').symm⟩
  choose r hr using hi
  exact ⟨r, funext hr⟩

end Cert.Finite

end
-- ==== Proof.lean ====
/-
  The proof of `Cert.Claim`: the three frames, the idealization, and the kernel's result equal to the reference's.
-/
module

public import proofs.«01_k».proof.Defs
public import proofs.«01_k».proof.Proof.Gen.Kernel.Frame
public import proofs.«01_k».proof.Proof.KernelRun
public import proofs.«01_k».proof.Proof.Equations
public import proofs.«01_k».proof.Proof.Finite
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_x_finite := fun m ρ _ => Cert.KernelIdeal.Gen.frame m ρ

/-- The reference's arguments keep their contents, and it declares no semaphore. -/
theorem frame_reference : Cert.quiescent_ReferenceIdeal := by
  intro m ρ _
  exact (θ_run (Cert.ReferenceIdeal.defs (F := Ideal)) _ _).mono
    (fun r h => ⟨fun c => (h c).2, sem_eq_zero_of_no_sems (by decide) r.2⟩) (Cert.ReferenceIdeal.Value.run (F := Ideal) m ρ)

theorem frame_reference_pre : Cert.quiescent_ReferenceIdeal_pre_x_finite := fun m ρ _ => frame_reference m ρ trivial

theorem values : Cert.algebraic_KernelIdeal_ReferenceIdeal_pre_x_finite := by
  intro m g m' g' hpre hargs
  refine ⟨fun c => Cert.KernelIdeal.Gen.W5 m g c (Proc.devRef .tc Cert.KernelIdeal.main_v8), Cert.KernelIdeal.Run.run m g, ?_⟩
  refine (θ_run (Cert.ReferenceIdeal.defs (F := Ideal)) _ _).mono (fun r h c => ⟨(h c).1.trans ?_, (h c).2⟩)
    (Cert.ReferenceIdeal.Value.run (F := Ideal) m' g')
  obtain ⟨x, hx⟩ := Cert.Finite.real_of_pre _ _ _ _ _ _ (hpre c)
  obtain ⟨h0, h1, h2, h3, h4, h5⟩ := hargs c
  refine (Cert.Equations.result_eq (Idealize.ShloMosaic.StableHlo.launchContents m' c) x (h0.trans hx)).trans ?_
  refine Eq.trans ?_ (Cert.KernelIdeal.Final.result_at m g c).symm
  rw [← h0, ← h1, ← h2, ← h3, ← h4, ← h5]

theorem claim : Cert.Claim :=
  ⟨Cert.Kernel.Gen.facts, Cert.KernelIdeal.Gen.facts, Cert.ReferenceIdeal.Gen.facts, Cert.Finite.preFacts,
    frame_kernel, frame_ideal, frame_ideal_pre, frame_reference, frame_reference_pre, trivial, values⟩

end Cert.Proof

end
